-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S4096x8192 : Shape := ⟨2, ![4096, 8192]⟩
abbrev S2x2x256x8192 : Shape := ⟨4, ![2, 2, 256, 8192]⟩
abbrev S2x256x8192 : Shape := ⟨3, ![2, 256, 8192]⟩
abbrev S2x6 : Shape := ⟨2, ![2, 6]⟩
abbrev S2 : Shape := ⟨1, ![2]⟩
abbrev S_ : Shape := ⟨0, ![]⟩
abbrev S256x1024 : Shape := ⟨2, ![256, 1024]⟩
abbrev S256x8192 : Shape := ⟨2, ![256, 8192]⟩
abbrev S1x1x256x8192 : Shape := ⟨4, ![1, 1, 256, 8192]⟩
abbrev S1x1 : Shape := ⟨2, ![1, 1]⟩
abbrev S1x256x8192 : Shape := ⟨3, ![1, 256, 8192]⟩

abbrev nBuf : Space → Nat
  | .hbm => 5
  | .vmem => 4
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x1024, .fp8e4m3⟩
  | .local _ .vmem, ⟨1, _⟩ => ⟨S1024x8192, .fp8e5m2⟩
  | .local _ .vmem, ⟨2, _⟩ => ⟨S2x2x256x8192, .bf16⟩
  | .local _ .vmem, ⟨3, _⟩ => ⟨S2x256x8192, .f32⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 3 30 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15 : BitVec 32 := 1#32
  let v29 : BitVec 32 := Scalar.muli v13 c1_i32_15
  let v30 : BitVec 32 := Scalar.addi c0_i32_16 v29
  v30.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18 : BitVec 32 := 1#32
  let v31 : BitVec 32 := Scalar.muli v24 c1_i32_18
  let v32 : BitVec 32 := Scalar.addi c0_i32_19 v31
  v32.toNat
def k0_off1 (d0 : Dev nD) (c0_i32_20 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi c0_i32_20 v2
  let c256_i32 : BitVec 32 := 256#32
  let v34 : BitVec 32 := Scalar.muli v33 c256_i32
  let v35 : Index := Scalar.indexCast v34
  let c0_21 : Index := 0#32
  ![v35.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v45 : BitVec 32 := Scalar.muli v24 c1_i32_36
  let v46 : BitVec 32 := Scalar.addi c0_i32_37 v45
  v46.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v67 : BitVec 32 := Scalar.muli v13 c1_i32_59
  let v68 : BitVec 32 := Scalar.addi c0_i32_60 v67
  v68.toNat
def k0_off2 (d0 : Dev nD) (c0_i32_73 : BitVec 32) (c0_i32_65 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 32 := Scalar.subi v2 c0_i32_65
  let c1_i32_66 : BitVec 32 := 1#32
  let v78 : BitVec 32 := Scalar.subi v77 c1_i32_66
  let c4_i32_67 : BitVec 32 := 4#32
  let c0_i32_68 : BitVec 32 := 0#32
  let v79 : BitVec 1 := Scalar.cmpi .eq c4_i32_67 c0_i32_68
  let c1_i32_69 : BitVec 32 := 1#32
  let v80 : BitVec 32 := Scalar.select v79 c1_i32_69 c4_i32_67
  let v81 : BitVec 32 := Scalar.remsi v78 v80
  let c0_i32_71 : BitVec 32 := 0#32
  let v83 : BitVec 1 := Scalar.cmpi .slt v81 c0_i32_71
  let c0_i32_72 : BitVec 32 := 0#32
  let v84 : BitVec 1 := Scalar.cmpi .slt v80 c0_i32_72
  let v85 : BitVec 1 := Scalar.xori v83 v84
  let c0_i32_70 : BitVec 32 := 0#32
  let v82 : BitVec 1 := Scalar.cmpi .ne v81 c0_i32_70
  let v86 : BitVec 1 := Scalar.andi v85 v82
  let v87 : BitVec 32 := Scalar.addi v81 v80
  let v88 : BitVec 32 := Scalar.select v86 v87 v81
  let v89 : BitVec 32 := Scalar.addi c0_i32_73 v88
  let c256_i32_74 : BitVec 32 := 256#32
  let v90 : BitVec 32 := Scalar.muli v89 c256_i32_74
  let v91 : Index := Scalar.indexCast v90
  let c0_75 : Index := 0#32
  ![v91.toNat, 0]
def k0_off3 (d0 : Dev nD) (c4_i32_90 : BitVec 32) (c0_i32_82 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.addi v2 c0_i32_82
  let c1_i32_83 : BitVec 32 := 1#32
  let v101 : BitVec 32 := Scalar.addi v100 c1_i32_83
  let c4_i32_84 : BitVec 32 := 4#32
  let c0_i32_85 : BitVec 32 := 0#32
  let v102 : BitVec 1 := Scalar.cmpi .eq c4_i32_84 c0_i32_85
  let c1_i32_86 : BitVec 32 := 1#32
  let v103 : BitVec 32 := Scalar.select v102 c1_i32_86 c4_i32_84
  let v104 : BitVec 32 := Scalar.remsi v101 v103
  let c0_i32_88 : BitVec 32 := 0#32
  let v106 : BitVec 1 := Scalar.cmpi .slt v104 c0_i32_88
  let c0_i32_89 : BitVec 32 := 0#32
  let v107 : BitVec 1 := Scalar.cmpi .slt v103 c0_i32_89
  let v108 : BitVec 1 := Scalar.xori v106 v107
  let c0_i32_87 : BitVec 32 := 0#32
  let v105 : BitVec 1 := Scalar.cmpi .ne v104 c0_i32_87
  let v109 : BitVec 1 := Scalar.andi v108 v105
  let v110 : BitVec 32 := Scalar.addi v104 v103
  let v111 : BitVec 32 := Scalar.select v109 v110 v104
  let v112 : BitVec 32 := Scalar.addi c4_i32_90 v111
  let c256_i32_91 : BitVec 32 := 256#32
  let v113 : BitVec 32 := Scalar.muli v112 c256_i32_91
  let v114 : Index := Scalar.indexCast v113
  let c0_92 : Index := 0#32
  ![v114.toNat, 0]
def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_128 : BitVec 32 := 1#32
  let v139 : BitVec 32 := Scalar.muli v13 c1_i32_128
  let v140 : BitVec 32 := Scalar.addi c0_i32_129 v139
  v140.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_152 : BitVec 32 := 1#32
  let v153 : BitVec 32 := Scalar.muli v24 c1_i32_152
  let v154 : BitVec 32 := Scalar.addi c0_i32_153 v153
  v154.toNat
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_187 : BitVec 32 := 1#32
  let v179 : BitVec 32 := Scalar.muli v24 c1_i32_187
  let v180 : BitVec 32 := Scalar.addi c0_i32_188 v179
  v180.toNat
def k0_dev8 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_211 : BitVec 32 := 1#32
  let v193 : BitVec 32 := Scalar.muli v13 c1_i32_211
  let v194 : BitVec 32 := Scalar.addi c0_i32_212 v193
  v194.toNat
def k0_dev9 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_280 : BitVec 32 := 1#32
  let v265 : BitVec 32 := Scalar.muli v13 c1_i32_280
  let v266 : BitVec 32 := Scalar.addi c0_i32_281 v265
  v266.toNat
def k0_dev10 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_304 : BitVec 32 := 1#32
  let v279 : BitVec 32 := Scalar.muli v24 c1_i32_304
  let v280 : BitVec 32 := Scalar.addi c0_i32_305 v279
  v280.toNat
def k0_dev11 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_339 : BitVec 32 := 1#32
  let v305 : BitVec 32 := Scalar.muli v24 c1_i32_339
  let v306 : BitVec 32 := Scalar.addi c0_i32_340 v305
  v306.toNat
def k0_dev12 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_363 : BitVec 32 := 1#32
  let v319 : BitVec 32 := Scalar.muli v13 c1_i32_363
  let v320 : BitVec 32 := Scalar.addi c0_i32_364 v319
  v320.toNat
def k0_dev13 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_432 : BitVec 32 := 1#32
  let v391 : BitVec 32 := Scalar.muli v13 c1_i32_432
  let v392 : BitVec 32 := Scalar.addi c0_i32_433 v391
  v392.toNat
def k0_dev14 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_461 : BitVec 32 := 1#32
  let v412 : BitVec 32 := Scalar.muli v24 c1_i32_461
  let v413 : BitVec 32 := Scalar.addi c0_i32_462 v412
  v413.toNat
def k0_off4 (d0 : Dev nD) (c0_i32_474 : BitVec 32) (c1_i32_467 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v422 : BitVec 32 := Scalar.addi v2 c1_i32_467
  let c4_i32_468 : BitVec 32 := 4#32
  let c0_i32_469 : BitVec 32 := 0#32
  let v423 : BitVec 1 := Scalar.cmpi .eq c4_i32_468 c0_i32_469
  let c1_i32_470 : BitVec 32 := 1#32
  let v424 : BitVec 32 := Scalar.select v423 c1_i32_470 c4_i32_468
  let v425 : BitVec 32 := Scalar.remsi v422 v424
  let c0_i32_472 : BitVec 32 := 0#32
  let v427 : BitVec 1 := Scalar.cmpi .slt v425 c0_i32_472
  let c0_i32_473 : BitVec 32 := 0#32
  let v428 : BitVec 1 := Scalar.cmpi .slt v424 c0_i32_473
  let v429 : BitVec 1 := Scalar.xori v427 v428
  let c0_i32_471 : BitVec 32 := 0#32
  let v426 : BitVec 1 := Scalar.cmpi .ne v425 c0_i32_471
  let v430 : BitVec 1 := Scalar.andi v429 v426
  let v431 : BitVec 32 := Scalar.addi v425 v424
  let v432 : BitVec 32 := Scalar.select v430 v431 v425
  let v433 : BitVec 32 := Scalar.addi c0_i32_474 v432
  let c256_i32_475 : BitVec 32 := 256#32
  let v434 : BitVec 32 := Scalar.muli v433 c256_i32_475
  let c0_i32_478 : BitVec 32 := 0#32
  ![v434.toNat, 0]
def k0_off4_at (r : Fin 8) : BitVec 32 × BitVec 32 :=
  if r.val < 4 then
    if r.val < 2 then
      if r.val < 1 then
        (0#32, 1#32)
      else
        (4#32, 0#32)
    else
      if r.val < 3 then
        (4#32, 1#32)
      else
        (4#32, 2#32)
  else
    if r.val < 6 then
      if r.val < 5 then
        (8#32, 1#32)
      else
        (12#32, 0#32)
    else
      if r.val < 7 then
        (12#32, 1#32)
      else
        (12#32, 2#32)
def k0_dev15 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_510 : BitVec 32 := 1#32
  let v456 : BitVec 32 := Scalar.muli v24 c1_i32_510
  let v457 : BitVec 32 := Scalar.addi c0_i32_511 v456
  v457.toNat
def k0_dev16 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_540 : BitVec 32 := 1#32
  let v477 : BitVec 32 := Scalar.muli v13 c1_i32_540
  let v478 : BitVec 32 := Scalar.addi c0_i32_541 v477
  v478.toNat
def k0_off5 (d0 : Dev nD) (c4_i32_553 : BitVec 32) (c1_i32_546 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v487 : BitVec 32 := Scalar.subi v2 c1_i32_546
  let c4_i32_547 : BitVec 32 := 4#32
  let c0_i32_548 : BitVec 32 := 0#32
  let v488 : BitVec 1 := Scalar.cmpi .eq c4_i32_547 c0_i32_548
  let c1_i32_549 : BitVec 32 := 1#32
  let v489 : BitVec 32 := Scalar.select v488 c1_i32_549 c4_i32_547
  let v490 : BitVec 32 := Scalar.remsi v487 v489
  let c0_i32_551 : BitVec 32 := 0#32
  let v492 : BitVec 1 := Scalar.cmpi .slt v490 c0_i32_551
  let c0_i32_552 : BitVec 32 := 0#32
  let v493 : BitVec 1 := Scalar.cmpi .slt v489 c0_i32_552
  let v494 : BitVec 1 := Scalar.xori v492 v493
  let c0_i32_550 : BitVec 32 := 0#32
  let v491 : BitVec 1 := Scalar.cmpi .ne v490 c0_i32_550
  let v495 : BitVec 1 := Scalar.andi v494 v491
  let v496 : BitVec 32 := Scalar.addi v490 v489
  let v497 : BitVec 32 := Scalar.select v495 v496 v490
  let v498 : BitVec 32 := Scalar.addi c4_i32_553 v497
  let c256_i32_554 : BitVec 32 := 256#32
  let v499 : BitVec 32 := Scalar.muli v498 c256_i32_554
  let c0_i32_557 : BitVec 32 := 0#32
  ![v499.toNat, 0]
def k0_off5_at (r : Fin 8) : BitVec 32 × BitVec 32 :=
  if r.val < 4 then
    if r.val < 2 then
      if r.val < 1 then
        (4#32, 1#32)
      else
        (0#32, 0#32)
    else
      if r.val < 3 then
        (0#32, 1#32)
      else
        (0#32, 2#32)
  else
    if r.val < 6 then
      if r.val < 5 then
        (12#32, 1#32)
      else
        (8#32, 0#32)
    else
      if r.val < 7 then
        (8#32, 1#32)
      else
        (8#32, 2#32)
def k0_dev17 (d0 : Dev nD) : Nat :=
  let c0_i32_590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_589 : BitVec 32 := 1#32
  let v521 : BitVec 32 := Scalar.muli v13 c1_i32_589
  let v522 : BitVec 32 := Scalar.addi c0_i32_590 v521
  v522.toNat
def k0_dev18 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_602 : BitVec 32 := 1#32
  let v525 : BitVec 32 := Scalar.muli v24 c1_i32_602
  let v526 : BitVec 32 := Scalar.addi c0_i32_603 v525
  v526.toNat
def k0_dev19 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_637 : BitVec 32 := 1#32
  let v551 : BitVec 32 := Scalar.muli v24 c1_i32_637
  let v552 : BitVec 32 := Scalar.addi c0_i32_638 v551
  v552.toNat
def k0_dev20 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_650 : BitVec 32 := 1#32
  let v555 : BitVec 32 := Scalar.muli v13 c1_i32_650
  let v556 : BitVec 32 := Scalar.addi c0_i32_651 v555
  v556.toNat
def k0_dev21 (d0 : Dev nD) : Nat :=
  let c0_i32_738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_737 : BitVec 32 := 1#32
  let v639 : BitVec 32 := Scalar.muli v13 c1_i32_737
  let v640 : BitVec 32 := Scalar.addi c0_i32_738 v639
  v640.toNat
def k0_dev22 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_749 : BitVec 32 := 1#32
  let v643 : BitVec 32 := Scalar.muli v24 c1_i32_749
  let v644 : BitVec 32 := Scalar.addi c0_i32_750 v643
  v644.toNat
def k0_dev23 (d0 : Dev nD) : Nat :=
  let c0_i32_785 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_784 : BitVec 32 := 1#32
  let v669 : BitVec 32 := Scalar.muli v24 c1_i32_784
  let v670 : BitVec 32 := Scalar.addi c0_i32_785 v669
  v670.toNat
def k0_dev24 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_797 : BitVec 32 := 1#32
  let v673 : BitVec 32 := Scalar.muli v13 c1_i32_797
  let v674 : BitVec 32 := Scalar.addi c0_i32_798 v673
  v674.toNat
def k0_dev25 (d0 : Dev nD) : Nat :=
  let c0_i32_973 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_972 : BitVec 32 := 1#32
  let v838 : BitVec 32 := Scalar.muli v13 c1_i32_972
  let v839 : BitVec 32 := Scalar.addi c0_i32_973 v838
  v839.toNat
def k0_dev26 (d0 : Dev nD) : Nat :=
  let c0_i32_976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_975 : BitVec 32 := 1#32
  let v840 : BitVec 32 := Scalar.muli v24 c1_i32_975
  let v841 : BitVec 32 := Scalar.addi c0_i32_976 v840
  v841.toNat
def k0_dev27 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_996 : BitVec 32 := 1#32
  let v854 : BitVec 32 := Scalar.muli v24 c1_i32_996
  let v855 : BitVec 32 := Scalar.addi c0_i32_997 v854
  v855.toNat
def k0_dev28 (d0 : Dev nD) : Nat :=
  let c0_i32_1020 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1019 : BitVec 32 := 1#32
  let v876 : BitVec 32 := Scalar.muli v13 c1_i32_1019
  let v877 : BitVec 32 := Scalar.addi c0_i32_1020 v876
  v877.toNat
def k0_dev29 (d0 : Dev nD) : Nat :=
  let c0_i32_1089 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1088 : BitVec 32 := 1#32
  let v948 : BitVec 32 := Scalar.muli v13 c1_i32_1088
  let v949 : BitVec 32 := Scalar.addi c0_i32_1089 v948
  v949.toNat
def k0_dev30 (d0 : Dev nD) : Nat :=
  let c0_i32_1113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1112 : BitVec 32 := 1#32
  let v962 : BitVec 32 := Scalar.muli v24 c1_i32_1112
  let v963 : BitVec 32 := Scalar.addi c0_i32_1113 v962
  v963.toNat
def k0_dev31 (d0 : Dev nD) : Nat :=
  let c0_i32_1148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1147 : BitVec 32 := 1#32
  let v988 : BitVec 32 := Scalar.muli v24 c1_i32_1147
  let v989 : BitVec 32 := Scalar.addi c0_i32_1148 v988
  v989.toNat
def k0_dev32 (d0 : Dev nD) : Nat :=
  let c0_i32_1172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1171 : BitVec 32 := 1#32
  let v1002 : BitVec 32 := Scalar.muli v13 c1_i32_1171
  let v1003 : BitVec 32 := Scalar.addi c0_i32_1172 v1002
  v1003.toNat
def k0_dev33 (d0 : Dev nD) : Nat :=
  let c0_i32_1241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1240 : BitVec 32 := 1#32
  let v1074 : BitVec 32 := Scalar.muli v13 c1_i32_1240
  let v1075 : BitVec 32 := Scalar.addi c0_i32_1241 v1074
  v1075.toNat
def k0_dev34 (d0 : Dev nD) : Nat :=
  let c0_i32_1265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1264 : BitVec 32 := 1#32
  let v1088 : BitVec 32 := Scalar.muli v24 c1_i32_1264
  let v1089 : BitVec 32 := Scalar.addi c0_i32_1265 v1088
  v1089.toNat
def k0_dev35 (d0 : Dev nD) : Nat :=
  let c0_i32_1300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1299 : BitVec 32 := 1#32
  let v1114 : BitVec 32 := Scalar.muli v24 c1_i32_1299
  let v1115 : BitVec 32 := Scalar.addi c0_i32_1300 v1114
  v1115.toNat
def k0_dev36 (d0 : Dev nD) : Nat :=
  let c0_i32_1324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1323 : BitVec 32 := 1#32
  let v1128 : BitVec 32 := Scalar.muli v13 c1_i32_1323
  let v1129 : BitVec 32 := Scalar.addi c0_i32_1324 v1128
  v1129.toNat
def k0_dev37 (d0 : Dev nD) : Nat :=
  let c0_i32_1393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1392 : BitVec 32 := 1#32
  let v1200 : BitVec 32 := Scalar.muli v13 c1_i32_1392
  let v1201 : BitVec 32 := Scalar.addi c0_i32_1393 v1200
  v1201.toNat
def k0_dev38 (d0 : Dev nD) : Nat :=
  let c0_i32_1423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1422 : BitVec 32 := 1#32
  let v1221 : BitVec 32 := Scalar.muli v24 c1_i32_1422
  let v1222 : BitVec 32 := Scalar.addi c0_i32_1423 v1221
  v1222.toNat
def k0_dev39 (d0 : Dev nD) : Nat :=
  let c0_i32_1472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1471 : BitVec 32 := 1#32
  let v1265 : BitVec 32 := Scalar.muli v24 c1_i32_1471
  let v1266 : BitVec 32 := Scalar.addi c0_i32_1472 v1265
  v1266.toNat
def k0_dev40 (d0 : Dev nD) : Nat :=
  let c0_i32_1502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1501 : BitVec 32 := 1#32
  let v1286 : BitVec 32 := Scalar.muli v13 c1_i32_1501
  let v1287 : BitVec 32 := Scalar.addi c0_i32_1502 v1286
  v1287.toNat
def k0_dev41 (d0 : Dev nD) : Nat :=
  let c0_i32_1551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1550 : BitVec 32 := 1#32
  let v1330 : BitVec 32 := Scalar.muli v13 c1_i32_1550
  let v1331 : BitVec 32 := Scalar.addi c0_i32_1551 v1330
  v1331.toNat
def k0_dev42 (d0 : Dev nD) : Nat :=
  let c0_i32_1564 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1563 : BitVec 32 := 1#32
  let v1334 : BitVec 32 := Scalar.muli v24 c1_i32_1563
  let v1335 : BitVec 32 := Scalar.addi c0_i32_1564 v1334
  v1335.toNat
def k0_dev43 (d0 : Dev nD) : Nat :=
  let c0_i32_1599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1598 : BitVec 32 := 1#32
  let v1360 : BitVec 32 := Scalar.muli v24 c1_i32_1598
  let v1361 : BitVec 32 := Scalar.addi c0_i32_1599 v1360
  v1361.toNat
def k0_dev44 (d0 : Dev nD) : Nat :=
  let c0_i32_1612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1611 : BitVec 32 := 1#32
  let v1364 : BitVec 32 := Scalar.muli v13 c1_i32_1611
  let v1365 : BitVec 32 := Scalar.addi c0_i32_1612 v1364
  v1365.toNat
def k0_dev45 (d0 : Dev nD) : Nat :=
  let c0_i32_1699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1698 : BitVec 32 := 1#32
  let v1448 : BitVec 32 := Scalar.muli v13 c1_i32_1698
  let v1449 : BitVec 32 := Scalar.addi c0_i32_1699 v1448
  v1449.toNat
def k0_dev46 (d0 : Dev nD) : Nat :=
  let c0_i32_1712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1711 : BitVec 32 := 1#32
  let v1452 : BitVec 32 := Scalar.muli v24 c1_i32_1711
  let v1453 : BitVec 32 := Scalar.addi c0_i32_1712 v1452
  v1453.toNat
def k0_dev47 (d0 : Dev nD) : Nat :=
  let c0_i32_1747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1746 : BitVec 32 := 1#32
  let v1478 : BitVec 32 := Scalar.muli v24 c1_i32_1746
  let v1479 : BitVec 32 := Scalar.addi c0_i32_1747 v1478
  v1479.toNat
def k0_dev48 (d0 : Dev nD) : Nat :=
  let c0_i32_1760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1759 : BitVec 32 := 1#32
  let v1482 : BitVec 32 := Scalar.muli v13 c1_i32_1759
  let v1483 : BitVec 32 := Scalar.addi c0_i32_1760 v1482
  v1483.toNat
abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Run.Prog.lean ====
module

public import proofs.«01_k».proof.Proof.Gen.KernelIdeal.Skeleton

@[expose] public section

noncomputable section

namespace Cert.KernelIdeal.Run

open Idealize.ShloMosaic Idealize.SL.Sem Cert.KernelIdeal.Gen

variable {F : FTy → Type} [FloatOps F]

/-! ## The buffers the body works on -/

/-- The device's column block of x, staged. -/
def bX : Memref sig .tc .vmem S4096x1024 .fp8e4m3 := Memref.whole cc0_stg0_0
/-- The device's row block of w, staged. -/
def bW : Memref sig .tc .vmem S1024x8192 .fp8e5m2 := Memref.whole cc0_stg1_0
/-- The communication slots: direction, slot, rows, columns. -/
def bC : Memref sig .tc .vmem S2x2x256x8192 .bf16 := Memref.whole cc0_scratch0
/-- The staging slots, one for each direction. -/
def bS : Memref sig .tc .vmem S2x256x8192 .f32 := Memref.whole cc0_scratch1
/-- The result. -/
def bO : Memref sig .tc .hbm S4096x8192 .f32 := Memref.whole main_v1

/-- The communication buffer's memref is the whole buffer. -/
theorem wholeC : bC.IsWhole := Memref.isWhole_whole _

/-! ## Rectangles: slots, staging slots, semaphores -/

/-- Each communication slot lies in its buffer. -/
theorem inbC : ∀ (d s : Fin 2) a, (![d.val, s.val, 0, 0] : Fin 4 → Nat) a + S1x1x256x8192.size a ≤ S2x2x256x8192.size a := by decide
/-- Each staging slot lies in its buffer. -/
theorem inbS : ∀ (d : Fin 2) a, (![d.val, 0, 0] : Fin 3 → Nat) a + S1x256x8192.size a ≤ S2x256x8192.size a := by decide
/-- Each hop's semaphore lies in its array. -/
theorem inbH : ∀ (d : Fin 2) (h : Fin 6) a, (![d.val, h.val] : Fin 2 → Nat) a + S1x1.size a ≤ S2x6.size a := by decide
/-- Each direction's semaphore lies in its array. -/
theorem inbD : ∀ (d : Fin 2) a, (![d.val] : Fin 1 → Nat) a + S1.size a ≤ S2.size a := by decide

/-- Slot `s` of direction `d`. -/
abbrev rC (d s : Fin 2) : Rect S2x2x256x8192 :=
  Rect.unit (s := S2x2x256x8192) ![d.val, s.val, 0, 0] S1x1x256x8192.size (inbC d s)
/-- The staging slot of direction `d`. -/
abbrev rS (d : Fin 2) : Rect S2x256x8192 :=
  Rect.unit (s := S2x256x8192) ![d.val, 0, 0] S1x256x8192.size (inbS d)

/-- A communication slot is made of whole packed rows. -/
theorem packedC : ∀ d s : Fin 2, (rC d s).PackedRows (EltTy.packing .bf16) := by decide
/-- A communication slot is made of whole words. -/
theorem wordsC : ∀ d s : Fin 2, (rC d s).WholeWords (EltTy.packing .bf16) := by decide

/-- A row block of x: 256 rows from `o`. -/
structure XRow where
  off : Fin 2 → Nat
  inb : ∀ a, off a + S256x1024.size a ≤ S4096x1024.size a

/-- A row block of the result: 256 rows from `o`. -/
structure ORow where
  off : Fin 2 → Nat
  inb : ∀ a, off a + S256x8192.size a ≤ S4096x8192.size a

/-- The rows of x the block names. -/
abbrev XRow.rect (o : XRow) : Rect S4096x1024 := Rect.unit (s := S4096x1024) o.off S256x1024.size o.inb
/-- The rows of the result the block names. -/
abbrev ORow.rect (o : ORow) : Rect S4096x8192 := Rect.unit (s := S4096x8192) o.off S256x8192.size o.inb
/-- All of w. -/
abbrev rW : Rect S1024x8192 := Rect.unit (s := S1024x8192) ![0, 0] S1024x8192.size inb_S1024x8192_S1024x8192_0_0

/-- A slot as the matrix a copy names. -/
abbrev vC (d s : Fin 2) : Memref sig .tc .vmem S256x8192 .bf16 :=
  (bC.slice (rC d s) (fun _ => rfl)).squeeze S256x8192 squeezes_S1x1x256x8192_S256x8192
/-- A staging slot as the matrix a copy names. -/
abbrev vS (d : Fin 2) : Memref sig .tc .vmem S256x8192 .f32 :=
  (bS.slice (rS d) (fun _ => rfl)).squeeze S256x8192 squeezes_S1x256x8192_S256x8192
/-- A row block of the result as the matrix a copy names. -/
abbrev vO (o : ORow) : Memref sig .tc .hbm S256x8192 .f32 := bO.slice o.rect (fun _ => rfl)

/-- The send semaphore of hop `h`, direction `d`. -/
abbrev sSend (d : Fin 2) (h : Fin 6) : DmaSem sig :=
  ((cc0_scratch2.slice (Rect.unit (s := S2x6) ![d.val, h.val] S1x1.size (inbH d h))).squeeze S_ squeezes_S1x1_S_).sem
/-- The receive semaphore of hop `h`, direction `d`. -/
abbrev sRecv (d : Fin 2) (h : Fin 6) : DmaSem sig :=
  ((cc0_scratch3.slice (Rect.unit (s := S2x6) ![d.val, h.val] S1x1.size (inbH d h))).squeeze S_ squeezes_S1x1_S_).sem
/-- The semaphore of the copies into the result, direction `d`. -/
abbrev sOut (d : Fin 2) : DmaSem sig :=
  ((cc0_scratch4.slice (Rect.unit (s := S2) ![d.val] S1.size (inbD d))).squeeze S_ squeezes_S1_S_).sem
/-- The credit semaphore of direction `d`. -/
abbrev sCred (d : Fin 2) : Sem sig :=
  ((cc0_scratch5.slice (Rect.unit (s := S2) ![d.val] S1.size (inbD d))).squeeze S_ squeezes_S1_S_).sem
/-- The barrier semaphore. -/
abbrev sBar : Sem sig := (SemArray.scalar (sig.barrier 0 rfl) : Sems sig S_).sem

/-- A copy of a communication slot moves whole words. -/
theorem wordC (d s : Fin 2) : (vC d s).view.WordExact := (wholeC.wordExact_slice rfl _ (wordsC d s)).reshape _ _
/-- A copy of a staging slot moves whole words. -/
theorem wordS (d : Fin 2) : (vS d).view.WordExact := (View.wordExact_bits rfl).reshape _ _
/-- A copy into a row block of the result moves whole words. -/
theorem wordO (o : ORow) : (vO o).view.WordExact := View.wordExact_bits rfl

/-! ## The values a step computes -/

/-- A row block of x times w: the device's share of a block of the product. -/
def partial_ (x : Vec F S256x1024 .fp8e4m3) (w : Vec F S1024x8192 .fp8e5m2) : FVec F S256x8192 .f32 :=
  matmul dot_S256x1024_S1024x8192_S256x8192_1_0_0_1_n_n none (shapeCast S256x1024 x shapeCasts_S256x1024_S256x1024)
    (shapeCast S1024x8192 w shapeCasts_S1024x8192_S1024x8192) (constant S256x8192 .f32 0x00000000#32)

/-- To a slot's format. -/
def toC (v : FVec F S256x8192 .f32) : FVec F S1x1x256x8192 .bf16 :=
  shapeCast S1x1x256x8192 (truncf .bf16 v bitsLt_bf16_f32) shapeCasts_S256x8192_S1x1x256x8192
/-- From a slot's format. -/
def fromC (v : Vec F S1x1x256x8192 .bf16) : FVec F S256x8192 .f32 :=
  extf .f32 (shapeCast S256x8192 v shapeCasts_S1x1x256x8192_S256x8192 : FVec F S256x8192 .bf16) bitsLt_bf16_f32
/-- To a staging slot's shape. -/
def toS (v : FVec F S256x8192 .f32) : FVec F S1x256x8192 .f32 := shapeCast S1x256x8192 v shapeCasts_S256x8192_S1x256x8192
/-- From a staging slot's shape. -/
def fromS (v : Vec F S1x256x8192 .f32) : FVec F S256x8192 .f32 := shapeCast S256x8192 v shapeCasts_S1x256x8192_S256x8192

/-! ## The steps -/

/-- The body's programs. -/
abbrev Pr (F : FTy → Type) [FloatOps F] := Prog (TpuEff nD τ sig (Elt F) Λ₀ .tc) PUnit

/-- Meet both neighbours at the barrier. -/
def meet (a b : Dev nD) : Pr F := do
  semSignalWord a sBar 1#32
  semSignalWord b sBar 1#32
  semWaitWord sBar 2#32

/-- The first block of a direction into slot 0. -/
def first (d : Fin 2) (o : XRow) : Pr F := do
  let x : Vec F S256x1024 .fp8e4m3 ← Prog.lift (.load bX o.rect.toLoadRect (View.loadsAt_vmem h_S256x1024))
  let w : Vec F S1024x8192 .fp8e5m2 ← Prog.lift (.load bW rW.toLoadRect (View.loadsAt_vmem h_S1024x8192))
  let _ : Vec F S1x1x256x8192 .bf16 ← Prog.lift (.load bC (rC d 0).toLoadRect (View.loadsAt_vmem h_S1x1x256x8192))
  Prog.lift (.store bC (rC d 0) (toC (partial_ x w)) Finset.univ (View.stores_vmem h_S1x1x256x8192 (wholeC.storeExact_slice rfl _ (packedC d 0)) (fun _ => rfl)) (.inl rfl))

/-- Start hop `h`: slot `s` to the neighbour's other slot. -/
def hop (d : Fin 2) (h : Fin 6) (s s' : Fin 2) (dev : Dev nD) : Pr F :=
  Prog.lift (.enqueueDma (vC d s) (.remote (Dev.tc dev) (vC d s') (.dma (sSend d h))) (.dma (sRecv d h)) (wordC d s) (wordC d s') ⟨⟨rfl, Or.inl rfl⟩, trivial⟩)

/-- A share of a block into the staging slot. -/
def share (d : Fin 2) (o : XRow) : Pr F := do
  let x : Vec F S256x1024 .fp8e4m3 ← Prog.lift (.load bX o.rect.toLoadRect (View.loadsAt_vmem h_S256x1024))
  let w : Vec F S1024x8192 .fp8e5m2 ← Prog.lift (.load bW rW.toLoadRect (View.loadsAt_vmem h_S1024x8192))
  let _ : Vec F S1x256x8192 .f32 ← Prog.lift (.load bS (rS d).toLoadRect (View.loadsAt_vmem h_S1x256x8192))
  Prog.lift (.store bS (rS d) (toS (partial_ x w)) Finset.univ (View.stores_vmem_bits_univ h_S1x256x8192 rfl) (.inl rfl))

/-- Wait for hop `h` to have left and to have come. -/
def await (d : Fin 2) (h : Fin 6) (s s' : Fin 2) : Pr F := do
  Prog.lift (.waitDma2 (sSend d h) (vC d s') (vC d s) (wordC d s') (wordC d s))
  Prog.lift (.waitDma2 (sRecv d h) (vC d s) (vC d s') (wordC d s) (wordC d s'))

/-- Grant the sending neighbour the slot the finished hop left. -/
def grant (d : Fin 2) (dev : Dev nD) : Pr F := semSignalWord dev (sCred d) 1#32

/-- Take the receiving neighbour's grant. -/
def take (d : Fin 2) : Pr F := semWaitWord (sCred d) 1#32

/-- Add the staged share to the slot. -/
def join (d s : Fin 2) : Pr F := do
  let a : Vec F S1x256x8192 .f32 ← Prog.lift (.load bS (rS d).toLoadRect (View.loadsAt_vmem h_S1x256x8192))
  let b : Vec F S1x1x256x8192 .bf16 ← Prog.lift (.load bC (rC d s).toLoadRect (View.loadsAt_vmem h_S1x1x256x8192))
  let _ : Vec F S1x1x256x8192 .bf16 ← Prog.lift (.load bC (rC d s).toLoadRect (View.loadsAt_vmem h_S1x1x256x8192))
  Prog.lift (.store bC (rC d s) (toC (addf (fromS a) (fromC b))) Finset.univ (View.stores_vmem h_S1x1x256x8192 (wholeC.storeExact_slice rfl _ (packedC d s)) (fun _ => rfl)) (.inl rfl))

/-- Finish the block: add, scale, back into the staging slot. -/
def finish (sc : F .f32) (d s : Fin 2) : Pr F := do
  let a : Vec F S1x256x8192 .f32 ← Prog.lift (.load bS (rS d).toLoadRect (View.loadsAt_vmem h_S1x256x8192))
  let b : Vec F S1x1x256x8192 .bf16 ← Prog.lift (.load bC (rC d s).toLoadRect (View.loadsAt_vmem h_S1x1x256x8192))
  let _ : Vec F S1x256x8192 .f32 ← Prog.lift (.load bS (rS d).toLoadRect (View.loadsAt_vmem h_S1x256x8192))
  Prog.lift (.store bS (rS d) (toS (mulf (addf (fromS a) (fromC b)) (broadcast S256x8192 sc))) Finset.univ (View.stores_vmem_bits_univ h_S1x256x8192 rfl) (.inl rfl))

/-- The finished block into the slot, for the way round. -/
def recast (d s : Fin 2) : Pr F := do
  let a : Vec F S1x256x8192 .f32 ← Prog.lift (.load bS (rS d).toLoadRect (View.loadsAt_vmem h_S1x256x8192))
  let _ : Vec F S1x1x256x8192 .bf16 ← Prog.lift (.load bC (rC d s).toLoadRect (View.loadsAt_vmem h_S1x1x256x8192))
  Prog.lift (.store bC (rC d s) (toC (fromS a)) Finset.univ (View.stores_vmem h_S1x1x256x8192 (wholeC.storeExact_slice rfl _ (packedC d s)) (fun _ => rfl)) (.inl rfl))

/-- The received block into the staging slot. -/
def expand (d s : Fin 2) : Pr F := do
  let b : Vec F S1x1x256x8192 .bf16 ← Prog.lift (.load bC (rC d s).toLoadRect (View.loadsAt_vmem h_S1x1x256x8192))
  let _ : Vec F S1x256x8192 .f32 ← Prog.lift (.load bS (rS d).toLoadRect (View.loadsAt_vmem h_S1x256x8192))
  Prog.lift (.store bS (rS d) (toS (fromC b)) Finset.univ (View.stores_vmem_bits_univ h_S1x256x8192 rfl) (.inl rfl))

/-- Start the copy of the staging slot into the result. -/
def out (d : Fin 2) (o : ORow) : Pr F :=
  Prog.lift (.enqueueDma (vS d) (.here (vO o)) (.dma (sOut d)) (wordS d) (wordO o) ⟨Or.inl rfl, trivial⟩)

/-- Wait for the copy into the result. -/
def outWait (d : Fin 2) (o : ORow) : Pr F :=
  Prog.lift (.waitDma2 (sOut d) (vS d) (vO o) (wordS d) (wordO o))

/-! ## A pass: the words a pass is printed with, and the pass -/

/-- What one pass addresses: the devices it signals and copies to, the row blocks it reads and writes. -/
structure Args where
  bar : Fin 2 → Dev nD
  hops : Fin 6 → Fin 2 → Dev nD
  backs : Fin 5 → Fin 2 → Dev nD
  x : Fin 4 → Fin 2 → XRow
  o : Fin 4 → Fin 2 → ORow

/-- A middle step of the reduction. -/
def reduce (A : Args) (d : Fin 2) (h : Fin 6) (g : Fin 5) (h' : Fin 6) (s s' : Fin 2) : Pr F := do
  await d h s s'
  grant d (A.backs g d)
  join d s'
  take d
  hop d h' s' s (A.hops h' d)

/-- The last step of the reduction. -/
def reduceLast (A : Args) (sc : F .f32) (d : Fin 2) : Pr F := do
  await d 2 0 1
  grant d (A.backs 2 d)
  finish sc d 1
  recast d 1
  take d
  hop d 3 1 0 (A.hops 3 d)
  out d (A.o 0 d)

/-- A relaying step of the gathering. -/
def relay (A : Args) (d : Fin 2) (h : Fin 6) (g : Fin 5) (h' : Fin 6) (s s' : Fin 2) : Pr F := do
  await d h s s'
  grant d (A.backs g d)
  take d
  hop d h' s' s (A.hops h' d)

/-- A received block on its way into the result. -/
def deliver (A : Args) (d s : Fin 2) (k k' : Fin 4) : Pr F := do
  outWait d (A.o k d)
  expand d s
  out d (A.o k' d)

/-- The reducing half of a pass. -/
def passReduce (A : Args) (sc : F .f32) : Pr F := do
  meet (A.bar 0) (A.bar 1)
  first 0 (A.x 0 0); hop 0 0 0 1 (A.hops 0 0)
  first 1 (A.x 0 1); hop 1 0 0 1 (A.hops 0 1)
  share 0 (A.x 1 0); share 1 (A.x 1 1)
  reduce A 0 0 0 1 0 1; reduce A 1 0 0 1 0 1
  share 0 (A.x 2 0); share 1 (A.x 2 1)
  reduce A 0 1 1 2 1 0; reduce A 1 1 1 2 1 0
  share 0 (A.x 3 0); share 1 (A.x 3 1)
  reduceLast A sc 0; reduceLast A sc 1

/-- The gathering half of a pass. -/
def passGather (A : Args) : Pr F := do
  relay A 0 3 3 4 1 0; relay A 1 3 3 4 1 0
  deliver A 0 0 0 1; deliver A 1 0 0 1
  relay A 0 4 4 5 0 1; relay A 1 4 4 5 0 1
  deliver A 0 1 1 2; deliver A 1 1 1 2
  await 0 5 1 0; await 1 5 1 0
  deliver A 0 0 2 3; deliver A 1 0 2 3
  outWait 0 (A.o 3 0); outWait 1 (A.o 3 1)

/-- A pass. -/
def pass (A : Args) (sc : F .f32) : Pr F := do
  passReduce A sc
  passGather A

/-- What the first pass is printed with, on device `c`. -/
def args0 (c : Dev nD) : Args where
  bar := ![⟨k0_dev1 c, k0_dev1_lt c⟩, ⟨k0_dev2 c, k0_dev2_lt c⟩]
  hops := ![![⟨k0_dev3 c, k0_dev3_lt c⟩, ⟨k0_dev4 c, k0_dev4_lt c⟩], ![⟨k0_dev6 c, k0_dev6_lt c⟩, ⟨k0_dev8 c, k0_dev8_lt c⟩],
    ![⟨k0_dev10 c, k0_dev10_lt c⟩, ⟨k0_dev12 c, k0_dev12_lt c⟩], ![⟨k0_dev14 c, k0_dev14_lt c⟩, ⟨k0_dev16 c, k0_dev16_lt c⟩],
    ![⟨k0_dev18 c, k0_dev18_lt c⟩, ⟨k0_dev20 c, k0_dev20_lt c⟩], ![⟨k0_dev22 c, k0_dev22_lt c⟩, ⟨k0_dev24 c, k0_dev24_lt c⟩]]
  backs := ![![⟨k0_dev5 c, k0_dev5_lt c⟩, ⟨k0_dev7 c, k0_dev7_lt c⟩], ![⟨k0_dev9 c, k0_dev9_lt c⟩, ⟨k0_dev11 c, k0_dev11_lt c⟩],
    ![⟨k0_dev13 c, k0_dev13_lt c⟩, ⟨k0_dev15 c, k0_dev15_lt c⟩], ![⟨k0_dev17 c, k0_dev17_lt c⟩, ⟨k0_dev19 c, k0_dev19_lt c⟩],
    ![⟨k0_dev21 c, k0_dev21_lt c⟩, ⟨k0_dev23 c, k0_dev23_lt c⟩]]
  x := ![![⟨k0_off1 c 0#32, k0_off1_inb c 0⟩, ⟨k0_off1 c 4#32, k0_off1_inb c 1⟩],
    ![⟨k0_off2 c 0#32 0#32, k0_off2_inb c 0 0⟩, ⟨k0_off3 c 4#32 0#32, k0_off3_inb c 0 0⟩],
    ![⟨k0_off2 c 0#32 1#32, k0_off2_inb c 0 1⟩, ⟨k0_off3 c 4#32 1#32, k0_off3_inb c 0 1⟩],
    ![⟨k0_off2 c 0#32 2#32, k0_off2_inb c 0 2⟩, ⟨k0_off3 c 4#32 2#32, k0_off3_inb c 0 2⟩]]
  o := ![![⟨k0_off4 c 0#32 1#32, k0_off4_inb c 0⟩, ⟨k0_off5 c 4#32 1#32, k0_off5_inb c 0⟩],
    ![⟨k0_off5 c 0#32 0#32, k0_off5_inb c 1⟩, ⟨k0_off4 c 4#32 0#32, k0_off4_inb c 1⟩],
    ![⟨k0_off5 c 0#32 1#32, k0_off5_inb c 2⟩, ⟨k0_off4 c 4#32 1#32, k0_off4_inb c 2⟩],
    ![⟨k0_off5 c 0#32 2#32, k0_off5_inb c 3⟩, ⟨k0_off4 c 4#32 2#32, k0_off4_inb c 3⟩]]

/-- What the second pass is printed with, on device `c`. -/
def args1 (c : Dev nD) : Args where
  bar := ![⟨k0_dev25 c, k0_dev25_lt c⟩, ⟨k0_dev26 c, k0_dev26_lt c⟩]
  hops := ![![⟨k0_dev27 c, k0_dev27_lt c⟩, ⟨k0_dev28 c, k0_dev28_lt c⟩], ![⟨k0_dev30 c, k0_dev30_lt c⟩, ⟨k0_dev32 c, k0_dev32_lt c⟩],
    ![⟨k0_dev34 c, k0_dev34_lt c⟩, ⟨k0_dev36 c, k0_dev36_lt c⟩], ![⟨k0_dev38 c, k0_dev38_lt c⟩, ⟨k0_dev40 c, k0_dev40_lt c⟩],
    ![⟨k0_dev42 c, k0_dev42_lt c⟩, ⟨k0_dev44 c, k0_dev44_lt c⟩], ![⟨k0_dev46 c, k0_dev46_lt c⟩, ⟨k0_dev48 c, k0_dev48_lt c⟩]]
  backs := ![![⟨k0_dev29 c, k0_dev29_lt c⟩, ⟨k0_dev31 c, k0_dev31_lt c⟩], ![⟨k0_dev33 c, k0_dev33_lt c⟩, ⟨k0_dev35 c, k0_dev35_lt c⟩],
    ![⟨k0_dev37 c, k0_dev37_lt c⟩, ⟨k0_dev39 c, k0_dev39_lt c⟩], ![⟨k0_dev41 c, k0_dev41_lt c⟩, ⟨k0_dev43 c, k0_dev43_lt c⟩],
    ![⟨k0_dev45 c, k0_dev45_lt c⟩, ⟨k0_dev47 c, k0_dev47_lt c⟩]]
  x := ![![⟨k0_off1 c 8#32, k0_off1_inb c 2⟩, ⟨k0_off1 c 12#32, k0_off1_inb c 3⟩],
    ![⟨k0_off2 c 8#32 0#32, k0_off2_inb c 1 0⟩, ⟨k0_off3 c 12#32 0#32, k0_off3_inb c 1 0⟩],
    ![⟨k0_off2 c 8#32 1#32, k0_off2_inb c 1 1⟩, ⟨k0_off3 c 12#32 1#32, k0_off3_inb c 1 1⟩],
    ![⟨k0_off2 c 8#32 2#32, k0_off2_inb c 1 2⟩, ⟨k0_off3 c 12#32 2#32, k0_off3_inb c 1 2⟩]]
  o := ![![⟨k0_off4 c 8#32 1#32, k0_off4_inb c 4⟩, ⟨k0_off5 c 12#32 1#32, k0_off5_inb c 4⟩],
    ![⟨k0_off5 c 8#32 0#32, k0_off5_inb c 5⟩, ⟨k0_off4 c 12#32 0#32, k0_off4_inb c 5⟩],
    ![⟨k0_off5 c 8#32 1#32, k0_off5_inb c 6⟩, ⟨k0_off4 c 12#32 1#32, k0_off4_inb c 6⟩],
    ![⟨k0_off5 c 8#32 2#32, k0_off5_inb c 7⟩, ⟨k0_off4 c 12#32 2#32, k0_off4_inb c 7⟩]]

/-- The body, by its steps. -/
def body : Pr F := do
  let c : Dev nD ← Prog.lift .deviceId
  let a : Elt F .f32 ← smemLoad (Memref.whole cc0_stg2_0) (Rect.unit (s := S1) ![0] S1.size inb_S1_S1_0) numel1_S1 rfl
  let b : Elt F .f32 ← smemLoad (Memref.whole cc0_stg3_0) (Rect.unit (s := S1) ![0] S1.size inb_S1_S1_0) numel1_S1 rfl
  pass (args0 c) (Scalar.mulf a b)
  pass (args1 c) (Scalar.mulf a b)

/-- Programs with equal first operations and equal continuations are equal. -/
theorem op_congr {E : Type → Type} {α β : Type} {e : E β} {k k' : β → Prog E α} (h : ∀ v, k v = k' v) : Prog.op e k = Prog.op e k' :=
  congrArg (Prog.op e) (funext h)
set_option maxHeartbeats 400000 in
set_option maxRecDepth 100000 in
/-- The printed body is the one by steps. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole main_v1) (Memref.isWhole_whole _) (Memref.whole cc0_scratch0) (Memref.isWhole_whole _)
    (Memref.whole cc0_scratch1) (Memref.isWhole_whole _) cc0_scratch2 cc0_scratch3 cc0_scratch4 cc0_scratch5 = body := by
  unfold body
  repeat refine op_congr fun _ => ?_
  rfl

end Cert.KernelIdeal.Run
-- ==== Proof.Run.Mem.lean ====
module

public import proofs.«01_k».proof.Proof.Run.Prog
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources the run is stated over -/

/-- The rounds' resources: duties have two names. -/
abbrev UB : Type := URounds (GSem nD τ sig) (Fin 2)
/-- The pipeline's resources beside the rounds'. -/
abbrev UU : Type := UR sig nD τ × UB

local notation "𝕄" => MT nD τ sig ℕ (Elt F) ℕ UU ℕ

/-- Where the staging copies' ghost state lies. -/
abbrev EP : Emb (UR sig nD τ) (MT nD τ sig ℕ (Elt F) ℕ UU ℕ) := embL
/-- Where the rounds' ghost state lies. -/
abbrev ER : Emb UB (MT nD τ sig ℕ (Elt F) ℕ UU ℕ) := embR

/-- No loop needs a variant. -/
abbrev 𝒱₀ : Variants := Variants.none

/-- Running a piece of the body on device `c`. -/
abbrev Wp (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- Device `c` holds the elements of a memref, at a share, with these contents. -/
abbrev has (c : Dev nD) {sp : Space} {sh : Shape} {e : EltTy} (m : Memref sig .tc sp sh e) (q : PosShare TreeShare)
    (X : sh.Idx → Elt F e) : sProp 𝕄 := owns (c : Thread nD τ) m q X

/-- Device `c` holds the elements of a memref, whatever is in them. -/
def scrap (c : Dev nD) {sp : Space} {sh : Shape} {e : EltTy} (m : Memref sig .tc sp sh e) : sProp 𝕄 :=
  iprop(∃ X : sh.Idx → Elt F e, has c m fullShare X)

/-- A memref held with any contents can be kept in an invariant. -/
instance scrap_storable (c : Dev nD) {sp : Space} {sh : Shape} {e : EltTy} (m : Memref sig .tc sp sh e) :
    BI.Storable (upEmb : UEmb _ 𝕄) (scrap (F := F) c m) := by unfold scrap; infer_instance

/-- Contents may be forgotten. -/
theorem has_scrap (c : Dev nD) {sp : Space} {sh : Shape} {e : EltTy} (m : Memref sig .tc sp sh e) (X : sh.Idx → Elt F e) :
    has c m fullShare X ⊢ (scrap c m : sProp 𝕄) := by
  unfold scrap; iintro H; iexists X; iexact H

/-! ## Loads and stores -/

/-- A load of a slot: the value read is the slot's matrix, in the slot's shape. -/
theorem load_slot (c : Dev nD) (d s : Fin 2) (q : PosShare TreeShare) (X : S256x8192.Idx → Elt F .bf16)
    {hl : bC.view.LoadsAt (rC d s).toLoadRect} {α : Type} {k : Vec F S1x1x256x8192 .bf16 → Prog (TpuEff nD τ sig (Elt F) Λ₀ .tc) α} {Q : α → sProp 𝕄} :
    has c (vC d s) q X ⊢ iprop((∀ v, ⌜shapeCast S256x8192 v shapeCasts_S1x1x256x8192_S256x8192 = X⌝ -∗ has c (vC d s) q X -∗ Wp c (k v) Q)
      -∗ Wp c (.op (.load bC (rC d s).toLoadRect hl) k) Q) := by
  unfold has owns
  iintro ⟨%f, %hf, H⟩ Hk
  iapply (wp_load 𝒱₀ (c : Thread nD τ) none Set.univ (m := bC) (r := (rC d s).toLoadRect) (S := (vC d s).view.set) (f := f)
    (((View.set_reshape _ _).trans (View.set_slice _ _)).symm.subset)) $$ H
  iintro H
  iapply Hk $$ [] [H]
  · ipureintro; rw [← hf]; rfl
  · iexists f; isplitr; · ipureintro; exact hf
    iexact H

/-- A store into a slot. -/
theorem store_slot (c : Dev nD) (d s : Fin 2) (Y : S256x8192.Idx → Elt F .bf16)
    {w : Vec F S1x1x256x8192 .bf16} {hx : (bC.access (rC d s)).Stores Finset.univ} {hm}
    (hw : w = shapeCast S1x1x256x8192 Y shapeCasts_S256x8192_S1x1x256x8192)
    {α : Type} {k : PUnit → Prog (TpuEff nD τ sig (Elt F) Λ₀ .tc) α} {Q : α → sProp 𝕄} :
    scrap c (vC d s) ⊢ iprop((has c (vC d s) fullShare Y -∗ Wp c (k ⟨⟩) Q)
      -∗ Wp c (.op (.store bC (rC d s) w Finset.univ hx hm) k) Q) := by
  unfold scrap has owns
  iintro ⟨%X, %f, %hf, H⟩ Hk
  iapply (wp_store 𝒱₀ (c : Thread nD τ) none Set.univ (m := bC) (r := rC d s) (Mk := Finset.univ) (S := (vC d s).view.set) (f := f)
    (((View.setOn_univ _).trans (View.set_reshape _ _).symm).subset)) $$ H
  iintro H
  iapply Hk
  iexists _; isplitr [H]
  · ipureintro
    show shapeCast S256x8192 ((bC.access (rC d s)).read (Elt F) ((bC.access (rC d s)).write (Elt F) f w Finset.univ)) shapeCasts_S1x1x256x8192_S256x8192 = Y
    rw [View.read_write_univ, hw]; exact shapeCast_shapeCast _ _ _
  · iexact H

/-- A load of a staging slot. -/
theorem load_stage (c : Dev nD) (d : Fin 2) (q : PosShare TreeShare) (X : S256x8192.Idx → Elt F .f32)
    {hl : bS.view.LoadsAt (rS d).toLoadRect} {α : Type} {k : Vec F S1x256x8192 .f32 → Prog (TpuEff nD τ sig (Elt F) Λ₀ .tc) α} {Q : α → sProp 𝕄} :
    has c (vS d) q X ⊢ iprop((∀ v, ⌜fromS v = X⌝ -∗ has c (vS d) q X -∗ Wp c (k v) Q)
      -∗ Wp c (.op (.load bS (rS d).toLoadRect hl) k) Q) := by
  unfold has owns
  iintro ⟨%f, %hf, H⟩ Hk
  iapply (wp_load 𝒱₀ (c : Thread nD τ) none Set.univ (m := bS) (r := (rS d).toLoadRect) (S := (vS d).view.set) (f := f)
    (((View.set_reshape _ _).trans (View.set_slice _ _)).symm.subset)) $$ H
  iintro H
  iapply Hk $$ [] [H]
  · ipureintro; rw [← hf]; rfl
  · iexists f; isplitr; · ipureintro; exact hf
    iexact H

/-- A store into a staging slot. -/
theorem store_stage (c : Dev nD) (d : Fin 2) (Y : FVec F S256x8192 .f32)
    {hx : (bS.access (rS d)).Stores Finset.univ} {hm}
    {α : Type} {k : PUnit → Prog (TpuEff nD τ sig (Elt F) Λ₀ .tc) α} {Q : α → sProp 𝕄} :
    scrap c (vS d) ⊢ iprop((has c (vS d) fullShare Y -∗ Wp c (k ⟨⟩) Q)
      -∗ Wp c (.op (.store bS (rS d) (toS Y) Finset.univ hx hm) k) Q) := by
  unfold scrap has owns
  iintro ⟨%X, %f, %hf, H⟩ Hk
  iapply (wp_store 𝒱₀ (c : Thread nD τ) none Set.univ (m := bS) (r := rS d) (Mk := Finset.univ) (S := (vS d).view.set) (f := f)
    (((View.setOn_univ _).trans (View.set_reshape _ _).symm).subset)) $$ H
  iintro H
  iapply Hk
  iexists _; isplitr [H]
  · ipureintro
    show shapeCast S256x8192 ((bS.access (rS d)).read (Elt F) ((bS.access (rS d)).write (Elt F) f (toS Y) Finset.univ)) shapeCasts_S1x256x8192_S256x8192 = Y
    rw [View.read_write_univ]; exact shapeCast_shapeCast _ _ _
  · iexact H

/-- A load of a row block of x. -/
theorem load_x (c : Dev nD) (o : XRow) (q : PosShare TreeShare) (X : S4096x1024.Idx → Elt F .fp8e4m3)
    {hl : bX.view.LoadsAt o.rect.toLoadRect} {α : Type} {k : Vec F S256x1024 .fp8e4m3 → Prog (TpuEff nD τ sig (Elt F) Λ₀ .tc) α} {Q : α → sProp 𝕄} :
    has c bX q X ⊢ iprop((has c bX q X -∗ Wp c (k fun j => X (o.rect.emb j)) Q)
      -∗ Wp c (.op (.load bX o.rect.toLoadRect hl) k) Q) := by
  unfold has owns
  iintro ⟨%f, %hf, H⟩ Hk
  iapply (wp_load 𝒱₀ (c : Thread nD τ) none Set.univ (m := bX) (r := o.rect.toLoadRect) (S := bX.view.set) (f := f)
    (by unfold bX; rw [Memref.view_whole, View.set_whole]; exact Finset.subset_univ _)) $$ H
  iintro H
  subst hf
  iapply Hk
  iexists f; isplitr; · ipureintro; rfl
  iexact H

/-- A load of w. -/
theorem load_w (c : Dev nD) (q : PosShare TreeShare) (X : S1024x8192.Idx → Elt F .fp8e5m2)
    {hl : bW.view.LoadsAt rW.toLoadRect} {α : Type} {k : Vec F S1024x8192 .fp8e5m2 → Prog (TpuEff nD τ sig (Elt F) Λ₀ .tc) α} {Q : α → sProp 𝕄} :
    has c bW q X ⊢ iprop((has c bW q X -∗ Wp c (k X) Q)
      -∗ Wp c (.op (.load bW rW.toLoadRect hl) k) Q) := by
  unfold has owns
  iintro ⟨%f, %hf, H⟩ Hk
  iapply (wp_load 𝒱₀ (c : Thread nD τ) none Set.univ (m := bW) (r := rW.toLoadRect) (S := bW.view.set) (f := f)
    (by unfold bW; rw [Memref.view_whole, View.set_whole]; exact Finset.subset_univ _)) $$ H
  iintro H
  have hr : bW.view.readAt (Elt F) rW.toLoadRect f = X := by
    rw [← hf]; exact Memref.readAt_unit_zero (Elt F) cc0_stg1_0 (funext fun a => by fin_cases a <;> rfl) _ f
  rw [hr]
  iapply Hk
  iexists f; isplitr; · ipureintro; exact hf
  iexact H

end Cert.KernelIdeal.Run
-- ==== Proof.Run.Sched.lean ====
module

public import proofs.«01_k».proof.Proof.Run.Mem
public import Idealize.ShloMosaic.Lib.Pipeline.TalkSites

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

/-! ## The ring -/

/-- The device `k` steps against direction `d` of device `c`: direction 0 runs up the mesh, direction 1 down. -/
def go (d : Fin 2) (k : ℕ) (c : Dev nD) : Dev nD := ⟨(c.val + (if d = 0 then 3 else 1) * k) % 4, Nat.mod_lt _ (by decide)⟩
/-- The device whose data direction `d` brings to `c`. -/
def up (d : Fin 2) (c : Dev nD) : Dev nD := go d 1 c
/-- The device to which direction `d` takes the data of `c`. -/
def down (d : Fin 2) (c : Dev nD) : Dev nD := go d 3 c

/-- The source of a device's target is the device. -/
theorem up_down : ∀ (d : Fin 2) (c : Dev nD), up d (down d c) = c := by decide
/-- The target of a device's source is the device. -/
theorem down_up : ∀ (d : Fin 2) (c : Dev nD), down d (up d c) = c := by decide

/-- Going round. -/
def ring (d : Fin 2) : Dev nD ≃ Dev nD := ⟨up d, down d, down_up d, up_down d⟩

/-! ## Row blocks -/

/-- The row block `n` of x. -/
def xrow (n : ℕ) : XRow := ⟨![256 * (n % 16), 0], fun a => by
  have : n % 16 < 16 := Nat.mod_lt _ (by decide)
  fin_cases a
  · show 256 * (n % 16) + 256 ≤ 4096; omega
  · show 0 + 1024 ≤ 1024; omega⟩
/-- The row block `n` of the result. -/
def orow (n : ℕ) : ORow := ⟨![256 * (n % 16), 0], fun a => by
  have : n % 16 < 16 := Nat.mod_lt _ (by decide)
  fin_cases a
  · show 256 * (n % 16) + 256 ≤ 4096; omega
  · show 0 + 8192 ≤ 8192; omega⟩

/-- The row block of pass `p`, direction `d`, number `j`. -/
def ch (p : ℕ) (d : Fin 2) (j : Dev nD) : ℕ := 8 * p + 4 * d.val + j.val

/-! ## Contents -/

/-- What the devices' operands hold: blocks of x, blocks of w, the product of the scales. -/
structure Inp (F : FTy → Type) where
  x : Dev nD → S4096x1024.Idx → Elt F .fp8e4m3
  w : Dev nD → S1024x8192.Idx → Elt F .fp8e5m2
  sc : Dev nD → F .f32

/-- A matrix of a slot's size, in f32. -/
abbrev M32 (F : FTy → Type) := S256x8192.Idx → Elt F .f32
/-- A matrix of a slot's size, in bf16. -/
abbrev M16 (F : FTy → Type) := S256x8192.Idx → Elt F .bf16

/-- Narrowing to bf16. -/
def nar (v : M32 F) : M16 F := (truncf .bf16 (v : FVec F S256x8192 .f32) bitsLt_bf16_f32 : FVec F S256x8192 .bf16)
/-- Widening to f32. -/
def wid (v : M16 F) : M32 F := (extf .f32 (v : FVec F S256x8192 .bf16) bitsLt_bf16_f32 : FVec F S256x8192 .f32)
/-- The sum. -/
def plus (a b : M32 F) : M32 F := (addf (a : FVec F S256x8192 .f32) b : FVec F S256x8192 .f32)
/-- The scaled sum. -/
def plusScaled (sc : F .f32) (a b : M32 F) : M32 F :=
  (mulf (addf (a : FVec F S256x8192 .f32) b) (broadcast S256x8192 sc) : FVec F S256x8192 .f32)

/-- Device `c`'s share of row block `n` of the product. -/
def part (I : Inp F) (n : ℕ) (c : Dev nD) : M32 F := partial_ (fun j => I.x c ((xrow n).rect.emb j)) (I.w c)

/-- What device `c` sends at hop `h` of pass `p` in direction `d`: hops 0, 1, 2 carry sums that grow, hop 3 the scaled
    whole sum, hops 4, 5 pass on what came. -/
def sent (I : Inp F) (p : ℕ) (d : Fin 2) : ℕ → Dev nD → M16 F
  | 0, c => nar (part I (ch p d (go d 0 c)) c)
  | 1, c => nar (plus (part I (ch p d (go d 1 c)) c) (wid (sent I p d 0 (up d c))))
  | 2, c => nar (plus (part I (ch p d (go d 2 c)) c) (wid (sent I p d 1 (up d c))))
  | 3, c => nar (plusScaled (I.sc c) (part I (ch p d (go d 3 c)) c) (wid (sent I p d 2 (up d c))))
  | h + 4, c => sent I p d (h + 3) (up d c)

/-- The block device `c` copies to the result as number `k` of pass `p`, direction `d`: its own, then those that came. -/
def fin (I : Inp F) (p : ℕ) (d : Fin 2) : ℕ → Dev nD → M32 F
  | 0, c => plusScaled (I.sc c) (part I (ch p d (go d 3 c)) c) (wid (sent I p d 2 (up d c)))
  | k + 1, c => wid (sent I p d (k + 3) (up d c))

/-- The rows it is copied to. -/
def finRow (p : ℕ) (d : Fin 2) (k : ℕ) (c : Dev nD) : ORow := orow (ch p d (go d (k + 3) c))

/-! ## Cells -/

/-- The semaphores of the protocol. -/
inductive Cid | bar | cred (d : Fin 2) | send (d : Fin 2) (h : Fin 6) | recv (d : Fin 2) (h : Fin 6) | out (d : Fin 2)
  deriving DecidableEq

/-- The semaphore a name names. -/
def Cid.sem : Cid → SemLoc sig
  | .bar => .reg sBar
  | .cred d => .reg (sCred d)
  | .send d h => .dma (sSend d h)
  | .recv d h => .dma (sRecv d h)
  | .out d => .dma (sOut d)

/-- All the names. -/
def cids : List Cid := [.bar, .cred 0, .cred 1, .send 0 0, .send 0 1, .send 0 2, .send 0 3, .send 0 4, .send 0 5,
  .send 1 0, .send 1 1, .send 1 2, .send 1 3, .send 1 4, .send 1 5, .recv 0 0, .recv 0 1, .recv 0 2, .recv 0 3, .recv 0 4, .recv 0 5,
  .recv 1 0, .recv 1 1, .recv 1 2, .recv 1 3, .recv 1 4, .recv 1 5, .out 0, .out 1]

/-- The list names every semaphore. -/
theorem mem_cids (k : Cid) : k ∈ cids := by
  cases k with
  | bar => decide
  | cred d => revert d; decide
  | send d h => revert d h; decide
  | recv d h => revert d h; decide
  | out d => revert d; decide

/-- There are finitely many names. -/
instance : Fintype Cid := ⟨⟨cids, by decide⟩, mem_cids⟩

/-- The name of a semaphore. -/
def cid (s : SemLoc sig) : Option Cid := cids.find? fun k => k.sem = s

/-- Different names name different semaphores: a semaphore's name can be read off. -/
theorem cid_sem : ∀ k : Cid, cid k.sem = some k := by decide +kernel

/-- Device `c`'s cell at a name. -/
abbrev cell (c : Dev nD) (k : Cid) : GSem nD τ sig := ((c : Thread nD τ), k.sem)

/-- The credit of a hop. -/
def N : ℕ := (vC 0 0).view.dmaCredit
/-- The credit of a copy into the result. -/
def No : ℕ := (vO (orow 0)).view.dmaCredit
/-- A hop has a credit. -/
theorem N_pos : 0 < N := View.dmaCredit_pos _ (by decide)
/-- A copy into the result has a credit. -/
theorem No_pos : 0 < No := View.dmaCredit_pos _ (by decide)

/-- The slot of a hop's source; the next hop's is its target. -/
def slot (h : ℕ) : Fin 2 := ⟨h % 2, Nat.mod_lt _ (by decide)⟩

/-! ## What landings hand over -/

/-- Device `c` has reached round `r` of its receive cells in direction `d`. -/
def recvR (d : Fin 2) (r : ℕ) (c : Dev nD) : sProp 𝕄 := bigSep Finset.univ fun h : Fin 6 => reached ER (cell c (.recv d h)) r
/-- A round once reached stays reached. -/
instance recvR_persistent (d : Fin 2) (r : ℕ) (c : Dev nD) : BI.Persistent (recvR (F := F) d r c) := by unfold recvR; infer_instance

/-- What a duty hands over. -/
def payOf (I : Inp F) (c : Dev nD) (r : ℕ) (n : Fin 2) : Cid → sProp 𝕄
  | .bar => iprop(scrap (down n c) (vC n 1) ∗ recvR n r (down n c))
  | .cred d => scrap (down d c) (vC d (slot (r % 5)))
  | .send d h => has c (vC d (slot h)) fullShare.right (sent I r d h c)
  | .recv d h => iprop(has c (vC d (slot (h + 1))) fullShare (sent I r d h (up d c)) ∗ reached ER (cell (up d c) (.cred d)) (5 * r + h)
      ∗ reached ER (cell (up d c) .bar) (r + 1))
  | .out d => iprop(has c (vO (finRow (r / 4) d (r % 4) c)) fullShare (fin I (r / 4) d (r % 4) c) ∗ has c (vS d) fullShare (fin I (r / 4) d (r % 4) c))

/-- A cell's duties in a round. -/
def dutOf (r : ℕ) : Cid → Finset (Fin 2)
  | .bar => if r < 2 then Finset.univ else ∅
  | .cred _ => if r < 10 then {0} else ∅
  | .send _ _ => if r < 2 then {0} else ∅
  | .recv _ _ => if r < 2 then {0} else ∅
  | .out _ => if r < 8 then {0} else ∅

/-- A duty's units. -/
def amtOf : Cid → ℕ
  | .bar => 1 | .cred _ => 1 | .send _ _ => N | .recv _ _ => N | .out _ => No

/-- Every duty has units. -/
theorem amtOf_pos (k : Cid) : 0 < amtOf k := by
  cases k <;> first | exact Nat.one_pos | exact N_pos | exact No_pos

/-- What a duty hands over can be kept in an invariant. -/
instance payOf_storable (I : Inp F) (c : Dev nD) (r : ℕ) (n : Fin 2) (k : Cid) : BI.Storable (upEmb : UEmb _ 𝕄) (payOf I c r n k) := by
  cases k <;> (unfold payOf recvR has; infer_instance)

/-- The schedule. -/
def Rd (I : Inp F) : Rounds.Schedule (GSem nD τ sig) (Fin 2) 𝕄 where
  duties g r := if g.1.2 = .tc then (cid g.2).elim ∅ (dutOf r) else ∅
  unitless _ := False
  amount g _ _ := (cid g.2).elim 1 amtOf
  payload g r n := (cid g.2).elim iprop(emp) (payOf I g.1.1 r n)
  amount_pos g _ _ _ := by
    cases h : cid g.2 with
    | none => exact Nat.one_pos
    | some k => exact amtOf_pos k

/-- The schedule's payloads can be kept in an invariant. -/
instance Rd_storable (I : Inp F) (g : GSem nD τ sig) (r : ℕ) (n : Fin 2) : BI.Storable (upEmb : UEmb _ 𝕄) ((Rd I).payload g r n) := by
  show BI.Storable upEmb ((cid g.2).elim iprop(emp) (payOf I g.1.1 r n))
  cases cid g.2 with
  | none => exact inferInstanceAs (BI.Storable upEmb iprop(emp))
  | some k => exact payOf_storable I g.1.1 r n k

section Facts
variable (I : Inp F) (c : Dev nD) (k : Cid)

omit [FloatOps F] in
/-- The schedule's duties at a cell. -/
theorem duties_eq [FloatOps F] (r : ℕ) : (Rd I).duties (cell c k) r = dutOf r k := by
  show (if (c : Thread nD τ).2 = .tc then (cid k.sem).elim ∅ (dutOf r) else ∅) = _
  rw [if_pos rfl, cid_sem]; rfl
/-- The schedule's amounts at a cell. -/
theorem amount_eq (r : ℕ) (n : Fin 2) : (Rd I).amount (cell c k) r n = amtOf k := by
  show (cid k.sem).elim 1 amtOf = _
  rw [cid_sem]; rfl
/-- The schedule's payloads at a cell. -/
theorem payload_eq (r : ℕ) (n : Fin 2) : (Rd I).payload (cell c k) r n = payOf I c r n k := by
  show (cid k.sem).elim iprop(emp) (payOf I c r n) = _
  rw [cid_sem]; rfl

/-- A round with one duty brings that duty's units. -/
theorem expect_one (r : ℕ) (h : dutOf r k = {0}) : (Rd I).expect (cell c k) r = amtOf k := by
  unfold Schedule.expect Schedule.amountOf
  rw [duties_eq, h, Finset.sum_singleton, amount_eq]
/-- A round of the barrier brings two units. -/
theorem expect_bar (r : ℕ) (h : r < 2) : (Rd I).expect (cell c .bar) r = 2 := by
  unfold Schedule.expect Schedule.amountOf
  rw [duties_eq, show dutOf r .bar = Finset.univ from if_pos h, Fin.sum_univ_two, amount_eq, amount_eq]; rfl
/-- A round with one duty hands over that duty's payload. -/
theorem rest_one (r : ℕ) (h : dutOf r k = {0}) :
    (bigSep ((Rd I).duties (cell c k) r \ ∅) (fun d => (Rd I).payload (cell c k) r d) : sProp 𝕄) = payOf I c r 0 k := by
  rw [duties_eq, h, Finset.sdiff_empty, bigSep_singleton, payload_eq]
/-- A round of the barrier hands over both neighbours' payloads. -/
theorem rest_bar (r : ℕ) (h : r < 2) :
    (bigSep ((Rd I).duties (cell c .bar) r \ ∅) (fun d => (Rd I).payload (cell c .bar) r d) : sProp 𝕄)
      = iprop(payOf I c r 0 .bar ∗ payOf I c r 1 .bar) := by
  rw [duties_eq, show dutOf r .bar = Finset.univ from if_pos h, Finset.sdiff_empty,
    bigSep_univ_eq_bigSepL [0, 1] (by decide) (by decide), ← payload_eq, ← payload_eq]; rfl

/-- The rounds of a cell. -/
def rounds : Cid → ℕ
  | .bar => 2 | .cred _ => 10 | .send _ _ => 2 | .recv _ _ => 2 | .out _ => 8
/-- After its last round a cell has no duties. -/
theorem duties_later : ∀ r, rounds k ≤ r → (Rd I).duties (cell c k) r = ∅ := fun r hr => by
  rw [duties_eq]
  cases k <;> exact if_neg (Nat.not_lt.mpr hr)

end Facts

/-! ## Payments -/

/-- The payments a device makes to other devices' cells. -/
inductive Code | bar (p : ℕ) (d : Fin 2) | hop (p : ℕ) (d : Fin 2) (h : Fin 6) | grant (p : ℕ) (d : Fin 2) (h : Fin 5)
  deriving DecidableEq

/-- The cell a payment credits. -/
def Code.cid : Code → Cid
  | .bar _ _ => .bar | .hop _ d h => .recv d h | .grant _ d _ => .cred d
/-- The device a payment goes to. -/
def Code.dest (c : Dev nD) : Code → Dev nD
  | .bar _ d => up d c | .hop _ d _ => down d c | .grant _ d _ => up d c
/-- A payment's level. -/
def Code.lev : Code → ℕ
  | .bar p _ => 40 * p + 1 | .hop p _ h => 40 * p + 2 + 4 * h.val | .grant p d h => 40 * p + 3 + 4 * h.val + d.val
/-- Paying it. -/
def Code.pay (c : Dev nD) (x : Code) : Pay nD τ sig := (cell (x.dest c) x.cid, x.lev, amtOf x.cid)

/-- A device's payments of a pass, in order. -/
def codes (p : ℕ) : List Code :=
  [.bar p 0, .bar p 1, .hop p 0 0, .hop p 1 0,
   .grant p 0 0, .hop p 0 1, .grant p 1 0, .hop p 1 1,
   .grant p 0 1, .hop p 0 2, .grant p 1 1, .hop p 1 2,
   .grant p 0 2, .hop p 0 3, .grant p 1 2, .hop p 1 3,
   .grant p 0 3, .hop p 0 4, .grant p 1 3, .hop p 1 4,
   .grant p 0 4, .hop p 0 5, .grant p 1 4, .hop p 1 5]

/-- What device `c` owes when the payments `l` are still to come. -/
def due (c : Dev nD) (l : List Code) : CellTallies nD τ sig ℕ := tallyL (l.map (Code.pay c))

/-- What is owed is the first payment and what is owed after it. -/
theorem due_cons (c : Dev nD) (x : Code) (l : List Code) : due c (x :: l) = due c l + tallyAt (cell (x.dest c) x.cid) x.lev (amtOf x.cid) := by
  unfold due; rw [List.map_cons, tallyL, add_comm]; rfl

/-- Device `c` owes the payments `l`. -/
def ow (c : Dev nD) (l : List Code) : sProp 𝕄 := iprop(∃ W, owes (c : Thread nD τ) (due c l) W)

/-- All levels lie under this. -/
abbrev top : ℕ := 200

/-- A wait at a level under all the payments still to come. -/
theorem mayWait (c : Dev nD) (s : SemLoc sig) (i : ℕ) (l : List Code) (hi : i < top) (h : ∀ x ∈ l, i < x.lev ∧ x.lev < top) :
    (levAts (SiteBlocks.L top) SiteBlocks.lv : sProp 𝕄) ⊢ MayWait (c : Thread nD τ) s i (due c l) :=
  SiteBlocks.mayWait_of hi c s _ fun g k hg => by
    obtain ⟨x, hx, rfl, rfl⟩ := TalkSites.tallyL_pos hg
    obtain ⟨y, hy, rfl⟩ := List.mem_map.mp hx
    exact ⟨SiteBlocks.mem_L' rfl (h y hy).2, (h y hy).1⟩

/-! ## The context of the steps -/

/-- Every cell's invariant. -/
def invs (I : Inp F) (K : Dev nD × Cid → ℕ) : sProp 𝕄 :=
  bigSep Finset.univ fun ck : Dev nD × Cid => cellInv ER (Rd I) (K ck) (cell ck.1 ck.2)
/-- The invariants and the levels. -/
def Ctx (I : Inp F) (K : Dev nD × Cid → ℕ) : sProp 𝕄 := iprop(invs I K ∗ levAts (SiteBlocks.L top) SiteBlocks.lv)
/-- The invariants stay known. -/
instance invs_persistent (I : Inp F) (K : Dev nD × Cid → ℕ) : BI.Persistent (invs I K) := by unfold invs; infer_instance
/-- The invariants and the levels stay known. -/
instance Ctx_persistent (I : Inp F) (K : Dev nD × Cid → ℕ) : BI.Persistent (Ctx I K) := by unfold Ctx; infer_instance

/-- One cell's invariant, out of all. -/
theorem invs_at (I : Inp F) (K : Dev nD × Cid → ℕ) (ck : Dev nD × Cid) : invs I K ⊢ cellInv ER (Rd I) (K ck) (cell ck.1 ck.2) :=
  bigSep_elim (Finset.mem_univ ck)
/-- One cell's invariant. -/
theorem ctx_inv (I : Inp F) (K : Dev nD × Cid → ℕ) (c : Dev nD) (k : Cid) : Ctx I K ⊢ cellInv ER (Rd I) (K (c, k)) (cell c k) := by
  unfold Ctx
  iintro ⟨#H, -⟩
  iapply (invs_at I K (c, k))
  iexact H
/-- The levels. -/
theorem ctx_lev (I : Inp F) (K : Dev nD × Cid → ℕ) : Ctx I K ⊢ levAts (SiteBlocks.L top) SiteBlocks.lv := by
  unfold Ctx; iintro ⟨-, #H⟩; iexact H

end Cert.KernelIdeal.Run
-- ==== Proof.Run.Steps.lean ====
module

public import proofs.«01_k».proof.Proof.Run.Sched

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (I : Inp F) (K : Dev nD × Cid → ℕ) (c : Dev nD)

/-- The staged operands, at some shares. -/
def ops : sProp 𝕄 := iprop(has c bX fullShare (I.x c) ∗ has c bW fullShare (I.w c))

section Steps
variable {α : Type} {k : PUnit → Prog (TpuEff nD τ sig (Elt F) Λ₀ .tc) α} {Q : α → sProp (MT nD τ sig ℕ (Elt F) ℕ UU ℕ)}

/-! ## Steps on the device's own memory -/

/-- The first block of a direction goes into slot 0. -/
theorem first_spec (d : Fin 2) (n : ℕ) :
    iprop(ops I c ∗ scrap c (vC d 0))
      ⊢ iprop((iprop(ops I c ∗ has c (vC d 0) fullShare (nar (part I n c))) -∗ Wp c (k ⟨⟩) Q) -∗ Wp c (first d (xrow n) >>= k) Q) := by
  unfold first ops
  simp only [Prog.lift, Prog.bind_op, Prog.bind_ret, Prog.pure_eq_ret]
  iintro ⟨⟨Hx, Hw⟩, Hs⟩ Hk
  iapply (load_x c (xrow n)) $$ Hx; iintro Hx
  iapply (load_w c) $$ Hw; iintro Hw
  unfold scrap; icases Hs with ⟨%X, Hs⟩
  iapply (load_slot c d 0) $$ Hs; iintro %v %hv Hs
  ihave Hs := (has_scrap c (vC d 0) X) $$ Hs
  iapply (store_slot c d 0 (nar (part I n c)) rfl) $$ Hs
  iintro Hs
  iapply Hk
  isplitl [Hx Hw]; · isplitl [Hx] <;> iassumption
  iexact Hs

/-- A share of a block goes into the staging slot. -/
theorem share_spec (d : Fin 2) (n : ℕ) :
    iprop(ops I c ∗ scrap c (vS d))
      ⊢ iprop((iprop(ops I c ∗ has c (vS d) fullShare (part I n c)) -∗ Wp c (k ⟨⟩) Q) -∗ Wp c (share d (xrow n) >>= k) Q) := by
  unfold share ops
  simp only [Prog.lift, Prog.bind_op, Prog.bind_ret, Prog.pure_eq_ret]
  iintro ⟨⟨Hx, Hw⟩, Hs⟩ Hk
  iapply (load_x c (xrow n)) $$ Hx; iintro Hx
  iapply (load_w c) $$ Hw; iintro Hw
  unfold scrap; icases Hs with ⟨%X, Hs⟩
  iapply (load_stage c d) $$ Hs; iintro %v %hv Hs
  ihave Hs := (has_scrap c (vS d) X) $$ Hs
  iapply (store_stage c d (part I n c)) $$ Hs
  iintro Hs
  iapply Hk
  isplitl [Hx Hw]; · isplitl [Hx] <;> iassumption
  iexact Hs

/-- The staged share is added to the slot. -/
theorem join_spec (d s : Fin 2) (A : M32 F) (B : M16 F) :
    iprop(has c (vS d) fullShare A ∗ has c (vC d s) fullShare B)
      ⊢ iprop((iprop(scrap c (vS d) ∗ has c (vC d s) fullShare (nar (plus A (wid B)))) -∗ Wp c (k ⟨⟩) Q) -∗ Wp c (join d s >>= k) Q) := by
  unfold join
  simp only [Prog.lift, Prog.bind_op, Prog.bind_ret, Prog.pure_eq_ret]
  iintro ⟨Ha, Hb⟩ Hk
  iapply (load_stage c d) $$ Ha; iintro %a %ha Ha
  iapply (load_slot c d s) $$ Hb; iintro %b %hb Hb
  iapply (load_slot c d s) $$ Hb; iintro %b' %hb' Hb
  ihave Hb := (has_scrap c (vC d s) B) $$ Hb
  iapply (store_slot c d s (nar (plus A (wid B))) (by subst ha hb; rfl)) $$ Hb
  iintro Hb
  iapply Hk
  isplitl [Ha]; · iapply (has_scrap c (vS d) A); iexact Ha
  iexact Hb

/-- The block is finished in the staging slot. -/
theorem finish_spec (d s : Fin 2) (sc : F .f32) (A : M32 F) (B : M16 F) :
    iprop(has c (vS d) fullShare A ∗ has c (vC d s) fullShare B)
      ⊢ iprop((iprop(has c (vS d) fullShare (plusScaled sc A (wid B)) ∗ has c (vC d s) fullShare B) -∗ Wp c (k ⟨⟩) Q)
          -∗ Wp c (finish sc d s >>= k) Q) := by
  unfold finish
  simp only [Prog.lift, Prog.bind_op, Prog.bind_ret, Prog.pure_eq_ret]
  iintro ⟨Ha, Hb⟩ Hk
  iapply (load_stage c d) $$ Ha; iintro %a %ha Ha
  iapply (load_slot c d s) $$ Hb; iintro %b %hb Hb
  iapply (load_stage c d) $$ Ha; iintro %a' %ha' Ha
  ihave Ha := (has_scrap c (vS d) A) $$ Ha
  have e : mulf (addf (fromS a) (fromC b)) (broadcast S256x8192 sc) = plusScaled sc A (wid B) := by subst ha hb; rfl
  rw [e]
  iapply (store_stage c d (plusScaled sc A (wid B))) $$ Ha
  iintro Ha
  iapply Hk
  isplitl [Ha] <;> iassumption

/-- The finished block goes into the slot. -/
theorem recast_spec (d s : Fin 2) (A : M32 F) :
    iprop(has c (vS d) fullShare A ∗ scrap c (vC d s))
      ⊢ iprop((iprop(has c (vS d) fullShare A ∗ has c (vC d s) fullShare (nar A)) -∗ Wp c (k ⟨⟩) Q) -∗ Wp c (recast d s >>= k) Q) := by
  unfold recast
  simp only [Prog.lift, Prog.bind_op, Prog.bind_ret, Prog.pure_eq_ret]
  iintro ⟨Ha, Hb⟩ Hk
  iapply (load_stage c d) $$ Ha; iintro %a %ha Ha
  unfold scrap; icases Hb with ⟨%B, Hb⟩
  iapply (load_slot c d s) $$ Hb; iintro %b %hb Hb
  ihave Hb := (has_scrap c (vC d s) B) $$ Hb
  iapply (store_slot c d s (nar A) (by subst ha; rfl)) $$ Hb
  iintro Hb
  iapply Hk
  isplitl [Ha] <;> iassumption

/-- The received block goes into the staging slot; a share of the slot will do. -/
theorem expand_spec (d s : Fin 2) (q : PosShare TreeShare) (B : M16 F) :
    iprop(has c (vC d s) q B ∗ scrap c (vS d))
      ⊢ iprop((iprop(has c (vC d s) q B ∗ has c (vS d) fullShare (wid B)) -∗ Wp c (k ⟨⟩) Q) -∗ Wp c (expand d s >>= k) Q) := by
  unfold expand
  simp only [Prog.lift, Prog.bind_op, Prog.bind_ret, Prog.pure_eq_ret]
  iintro ⟨Hb, Ha⟩ Hk
  iapply (load_slot c d s) $$ Hb; iintro %b %hb Hb
  unfold scrap; icases Ha with ⟨%A, Ha⟩
  iapply (load_stage c d) $$ Ha; iintro %a %ha Ha
  ihave Ha := (has_scrap c (vS d) A) $$ Ha
  have e : fromC b = wid B := by subst hb; rfl
  rw [e]
  iapply (store_stage c d (wid B)) $$ Ha
  iintro Ha
  iapply Hk
  isplitl [Hb] <;> iassumption

/-! ## Copies into the result -/

/-- Starting the copy of the staging slot into the result pays the round of the copy's cell. -/
theorem out_spec (p : ℕ) (d : Fin 2) (n : ℕ) (hp : p < 2) (hn : n < 4) :
    iprop(Ctx I K ∗ has c (vS d) fullShare (fin I p d n c) ∗ scrap c (vO (finRow p d n c))
        ∗ dutyTok ER (cell c (.out d)) (4 * p + n) 0 ∗ reached ER (cell c (.out d)) (4 * p + n))
      ⊢ iprop((cred (tallyAt (cell c (.out d)) 0 No) -∗ Wp c (k ⟨⟩) Q) -∗ Wp c (out d (finRow p d n c) >>= k) Q) := by
  unfold out
  simp only [Prog.lift, Prog.bind_op, Prog.bind_ret, Prog.pure_eq_ret]
  unfold scrap has owns
  iintro ⟨#HC, ⟨%fs, %hfs, Hs⟩, ⟨%X, %fd, %hfd, Ho⟩, Ht, #Hr⟩ Hk
  iapply (Rounds.wp_copy_pointsTo 𝒱₀ ER (Rd I) (c : Thread nD τ) none (src := vS d) (dst := vO (finRow p d n c)) (κ := K (c, .out d)) (r := 4 * p + n) (d := 0)
    (by rw [duties_eq]
        show (0 : Fin 2) ∈ (if 4 * p + n < 8 then {0} else ∅)
        rw [if_pos (by omega)]; exact Finset.mem_singleton_self _) 0 No rfl (amount_eq I c (.out d) _ _)
    (q := fullShare) (fs := fs) (fd := fd)
    (by
      rw [payload_eq]
      unfold payOf
      have e1 : (4 * p + n) / 4 = p := by omega
      have e2 : (4 * p + n) % 4 = n := by omega
      rw [e1, e2]
      unfold has owns
      iintro ⟨Hd, Hs⟩
      isplitl [Hd]
      · iexists ((vO (finRow p d n c)).view.write (Elt F) fd ((vS d).view.read (Elt F) fs) Finset.univ); isplitr [Hd]
        · ipureintro; exact (View.read_write_univ _ _).trans hfs
        · iexact Hd
      · iexists fs; isplitr; · ipureintro; exact hfs
        iexact Hs)) $$ [Hs Ho Ht]
  · isplitr; · iapply (ctx_inv I K c (.out d)); iexact HC
    isplitl [Hs]; · iexact Hs
    isplitl [Ho]; · iexact Ho
    isplitl [Ht]; · iexact Ht
    iexact Hr
  iintro Hc
  iapply Hk
  iexact Hc

/-- Waiting for it gives the staging slot and the rows, filled. -/
theorem outWait_spec (p : ℕ) (d : Fin 2) (n : ℕ) (hp : p < 2) (hn : n < 4) (l : List Code) (hl : ∀ x ∈ l, 0 < x.lev ∧ x.lev < top) :
    iprop(Ctx I K ∗ cred (tallyAt (cell c (.out d)) 0 No) ∗ ow c l ∗ atPos ER (cell c (.out d)) (4 * p + n) ∅ 0)
      ⊢ iprop((iprop(ow c l ∗ atPos ER (cell c (.out d)) (4 * p + n + 1) ∅ 0 ∗ reached ER (cell c (.out d)) (4 * p + n + 1)
            ∗ has c (vO (finRow p d n c)) fullShare (fin I p d n c) ∗ scrap c (vS d)) -∗ Wp c (k ⟨⟩) Q)
          -∗ Wp c (outWait d (finRow p d n c) >>= k) Q) := by
  unfold outWait
  simp only [Prog.lift, Prog.bind_op, Prog.bind_ret, Prog.pure_eq_ret]
  unfold ow
  have hd : dutOf (4 * p + n) (.out d) = {0} := if_pos (by omega)
  iintro ⟨#HC, Hc, ⟨%W, HO⟩, Hat⟩ Hk
  iapply (Rounds.wp_wait_rest_token 𝒱₀ ER (Rd I) (c : Thread nD τ) none (sm := Cid.sem (.out d)) (k' := No) (w := .waitDma2 (sOut d) (vS d) (vO (finRow p d n c)) (wordS d) (wordO _)) (κ := K (c, .out d))
      (wpE_waitDma2_eq 𝒱₀ (c : Thread nD τ) none Set.univ) (Set.mem_univ _) 0 (O := due c l) (W := W) (R := 4 * p + n) (m := 0) (T := ∅)
      (by exact (Nat.zero_add _).trans (expect_one I c (.out d) _ hd).symm)) $$ [Hc HO Hat]
  · isplitr; · iapply (ctx_inv I K c (.out d)); iexact HC
    isplitl [Hc]; · iexact Hc
    isplitl [HO]; · iexact HO
    isplitr; · iapply (mayWait c (.dma (sOut d)) 0 l (by decide) hl); iapply (ctx_lev I K); iexact HC
    iexact Hat
  iintro ⟨HO, Hat, #Hr, Hp⟩
  ihave Hp := (Entails.of_eq (rest_one I c (.out d) _ hd)) $$ Hp
  unfold payOf
  have e1 : (4 * p + n) / 4 = p := by omega
  have e2 : (4 * p + n) % 4 = n := by omega
  rw [e1, e2]
  icases Hp with ⟨Ho, Hs⟩
  iapply Hk
  isplitl [HO]; · iexists _; iexact HO
  isplitl [Hat]; · iexact Hat
  isplitr; · iexact Hr
  isplitl [Ho]; · iexact Ho
  iapply (has_scrap c (vS d) _); iexact Hs

end Steps

end Cert.KernelIdeal.Run
-- ==== Proof.Run.Comm.lean ====
module

public import proofs.«01_k».proof.Proof.Run.Steps

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (I : Inp F) (K : Dev nD × Cid → ℕ) (c : Dev nD)

section Comm
variable {α : Type} {k : PUnit → Prog (TpuEff nD τ sig (Elt F) Λ₀ .tc) α} {Q : α → sProp (MT nD τ sig ℕ (Elt F) ℕ UU ℕ)}

/-- In a round that a cell still has, duty 0 is one of its duties. -/
theorem mem_one {r b : ℕ} (h : r < b) : (0 : Fin 2) ∈ (if r < b then ({0} : Finset (Fin 2)) else ∅) := by
  rw [if_pos h]; exact Finset.mem_singleton_self _

/-- Starting a hop: the source's right half is lent until the send wait, the neighbour's slot is filled. -/
theorem hop_spec (p : ℕ) (d : Fin 2) (h : Fin 6) (s s' : Fin 2) (hp : p < 2) (hs : s = slot h) (hs' : s' = slot (h + 1)) (l : List Code) (n : Dev nD) (hn : n = down d c) :
    iprop(Ctx I K ∗ has c (vC d s) fullShare (sent I p d h c) ∗ scrap (down d c) (vC d s') ∗ ow c (.hop p d h :: l)
        ∗ (dutyTok ER (cell c (.send d h)) p 0 ∗ reached ER (cell c (.send d h)) p)
        ∗ dutyTok ER (cell (down d c) (.recv d h)) p 0 ∗ recvR d p (down d c)
        ∗ reached ER (cell c (.cred d)) (5 * p + h) ∗ reached ER (cell c .bar) (p + 1))
      ⊢ iprop((iprop(has c (vC d s) fullShare.left (sent I p d h c) ∗ cred (tallyAt (cell c (.send d h)) 0 N) ∗ ow c l) -∗ Wp c (k ⟨⟩) Q)
          -∗ Wp c (hop d h s s' n >>= k) Q) := by
  subst hs hs' hn
  unfold hop
  simp only [Prog.lift, Prog.bind_op, Prog.bind_ret, Prog.pure_eq_ret]
  unfold ow recvR
  iintro ⟨#HC, Hs, Hd, ⟨%W, HO⟩, ⟨HtS, #HrS⟩, HtV, #HrV, #HrC, #HrB⟩ Hk
  ihave HrV' := (show (bigSep Finset.univ fun h : Fin 6 => (reached ER (cell (down d c) (.recv d h)) p : sProp 𝕄)) ⊢ reached ER (cell (down d c) (.recv d h)) p from
    bigSep_elim (Finset.mem_univ h)) $$ HrV
  ihave Hs2 := (owns_halves (c : Thread nD τ) (vC d (slot h)) fullShare (sent I p d h c)).1 $$ Hs
  icases Hs2 with ⟨Hl, Hr⟩
  unfold scrap has
  rw [due_cons]
  icases Hd with ⟨%X, Hd⟩
  ihave Hr := (show owns (c : Thread nD τ) (vC d (slot h)) fullShare.right (sent I p d h c) ⊢ (iprop(∃ f, ⌜(vC d (slot h)).view.read (Elt F) f = sent I p d h c⌝
      ∗ ((vC d (slot h)).view.loc (c : Thread nD τ) ↦[(vC d (slot h)).view.set]{fullShare.right} f)) : sProp 𝕄) from .rfl) $$ Hr
  ihave Hd := (show owns (down d c : Thread nD τ) (vC d (slot (h + 1))) fullShare X ⊢ (iprop(∃ f, ⌜(vC d (slot (h + 1))).view.read (Elt F) f = X⌝
      ∗ ((vC d (slot (h + 1))).view.loc (down d c : Thread nD τ) ↦[(vC d (slot (h + 1))).view.set]{fullShare} f)) : sProp 𝕄) from .rfl) $$ Hd
  icases Hr with ⟨%fs, %hfs, Hr⟩
  icases Hd with ⟨%fd, %hfd, Hd⟩
  iapply (Rounds.wp_send_pointsTo_with 𝒱₀ ER (Rd I) (c : Thread nD τ) none (c' := (down d c : Thread nD τ)) (src := vC d (slot h)) (dst := vC d (slot (h + 1)))
      (sS := Cid.sem (.send d h)) (sem := Cid.sem (.recv d h))
      (κ₁ := K (c, .send d h)) (κ₂ := K (down d c, .recv d h)) (r₁ := p) (r₂ := p) (d₁ := 0) (d₂ := 0) (fs := fs) (fd := fd) (q := fullShare.right)
      (F := iprop(reached ER (cell c (.cred d)) (5 * p + h) ∗ reached ER (cell c .bar) (p + 1)))
      (by rw [duties_eq]; exact mem_one hp) (by rw [duties_eq]; exact mem_one hp)
      (Code.lev (.hop p d h)) 0 N rfl (amount_eq I c (.send d h) _ _) (amount_eq I (down d c) (.recv d h) _ _) (due c l) rfl (W := W)
      (by
        rw [payload_eq]; unfold payOf; dsimp only; unfold has owns
        iintro H; iexists fs; isplitr; · ipureintro; exact hfs
        iexact H)
      (by
        rw [payload_eq]; unfold payOf; dsimp only; unfold has owns
        rw [up_down]
        iintro ⟨H, HF⟩
        isplitl [H]
        · iexists ((vC d (slot (h + 1))).view.write (Elt F) fd ((vC d (slot h)).view.read (Elt F) fs) Finset.univ); isplitr [H]
          · ipureintro; exact (View.read_write_univ _ _).trans hfs
          · iexact H
        · iexact HF)) $$ [Hr Hd HO HtS HtV]
  · isplitr; · iapply (ctx_inv I K c (.send d h)); iexact HC
    isplitr; · iapply (ctx_inv I K (down d c) (.recv d h)); iexact HC
    isplitl [Hr]; · iexact Hr
    isplitl [Hd]
    · isplitl [Hd]; · iexact Hd
      isplitr; · iexact HrC
      iexact HrB
    isplitl [HO]; · iexact HO
    isplitl [HtS]; · iexact HtS
    isplitr; · iexact HrS
    isplitl [HtV]; · iexact HtV
    iexact HrV'
  iintro ⟨Hc, HO⟩
  iapply Hk
  isplitl [Hl]; · iexact Hl
  isplitl [Hc]; · iexact Hc
  iexists W; iexact HO

/-- Waiting for a hop: its source whole again, its target filled, and marks of the sender's progress. -/
theorem await_spec (p : ℕ) (d : Fin 2) (h : Fin 6) (s s' : Fin 2) (hp : p < 2) (hs : s = slot h) (hs' : s' = slot (h + 1)) (l : List Code)
    (hl : ∀ x ∈ l, 40 * p + 2 + 4 * h.val < x.lev ∧ x.lev < top) :
    iprop(Ctx I K ∗ has c (vC d s) fullShare.left (sent I p d h c) ∗ cred (tallyAt (cell c (.send d h)) 0 N) ∗ ow c l
        ∗ (atPos ER (cell c (.send d h)) p ∅ 0 ∗ atPos ER (cell c (.recv d h)) p ∅ 0)
        ∗ cred (tallyAt (cell c (.recv d h)) (40 * p + 2 + 4 * h.val) N))
      ⊢ iprop((iprop(has c (vC d s) fullShare (sent I p d h c) ∗ has c (vC d s') fullShare (sent I p d h (up d c)) ∗ ow c l
            ∗ (atPos ER (cell c (.send d h)) (p + 1) ∅ 0 ∗ atPos ER (cell c (.recv d h)) (p + 1) ∅ 0
              ∗ reached ER (cell c (.send d h)) (p + 1) ∗ reached ER (cell c (.recv d h)) (p + 1))
            ∗ reached ER (cell (up d c) (.cred d)) (5 * p + h) ∗ reached ER (cell (up d c) .bar) (p + 1)) -∗ Wp c (k ⟨⟩) Q)
          -∗ Wp c (await d h s s' >>= k) Q) := by
  subst hs hs'
  unfold await
  simp only [Prog.lift, Prog.bind_op, Prog.bind_ret, Prog.pure_eq_ret]
  unfold ow
  have hd₁ : dutOf p (.send d h) = {0} := if_pos hp
  have hd₂ : dutOf p (.recv d h) = {0} := if_pos hp
  have h6 : h.val < 6 := h.isLt
  iintro ⟨#HC, Hl, HcS, ⟨%W, HO⟩, ⟨HaS, HaV⟩, HcV⟩ Hk
  iapply (Rounds.wp_wait_rest_token 𝒱₀ ER (Rd I) (c : Thread nD τ) none (sm := Cid.sem (.send d h)) (k' := N)
      (w := .waitDma2 (sSend d h) (vC d (slot (h + 1))) (vC d (slot h)) (wordC _ _) (wordC _ _)) (κ := K (c, .send d h))
      (wpE_waitDma2_eq 𝒱₀ (c : Thread nD τ) none Set.univ) (Set.mem_univ _) 0 (O := due c l) (W := W) (R := p) (m := 0) (T := ∅)
      (by exact (Nat.zero_add _).trans (expect_one I c (.send d h) _ hd₁).symm)) $$ [HcS HO HaS]
  · isplitr; · iapply (ctx_inv I K c (.send d h)); iexact HC
    isplitl [HcS]; · iexact HcS
    isplitl [HO]; · iexact HO
    isplitr
    · iapply (mayWait c (.dma (sSend d h)) 0 l (by decide) fun x hx => ⟨by have := (hl x hx).1; omega, (hl x hx).2⟩); iapply (ctx_lev I K); iexact HC
    iexact HaS
  iintro ⟨HO, HaS, #HrS, Hp⟩
  ihave Hr := (Entails.of_eq (rest_one I c (.send d h) _ hd₁)) $$ Hp
  unfold payOf
  ihave Hs := (owns_halves (c : Thread nD τ) (vC d (slot h)) fullShare (sent I p d h c)).2 $$ [Hl Hr]
  · isplitl [Hl]; · iexact Hl
    iexact Hr
  iapply (Rounds.wp_wait_rest_token 𝒱₀ ER (Rd I) (c : Thread nD τ) none (sm := Cid.sem (.recv d h)) (k' := N)
      (w := .waitDma2 (sRecv d h) (vC d (slot h)) (vC d (slot (h + 1))) (wordC _ _) (wordC _ _)) (κ := K (c, .recv d h))
      (wpE_waitDma2_eq 𝒱₀ (c : Thread nD τ) none Set.univ) (Set.mem_univ _) (40 * p + 2 + 4 * h.val) (O := due c l) (R := p) (m := 0) (T := ∅)
      (by exact (Nat.zero_add _).trans (expect_one I c (.recv d h) _ hd₂).symm)) $$ [HcV HO HaV]
  · isplitr; · iapply (ctx_inv I K c (.recv d h)); iexact HC
    isplitl [HcV]; · iexact HcV
    isplitl [HO]; · iexact HO
    isplitr
    · iapply (mayWait c (.dma (sRecv d h)) (40 * p + 2 + 4 * h.val) l (show _ < 200 by omega) hl); iapply (ctx_lev I K); iexact HC
    iexact HaV
  iintro ⟨HO, HaV, #HrV, Hp⟩
  ihave Hp := (Entails.of_eq (rest_one I c (.recv d h) _ hd₂)) $$ Hp
  unfold payOf
  icases Hp with ⟨Hv, #HrC, #HrB⟩
  iapply Hk
  isplitl [Hs]; · iexact Hs
  isplitl [Hv]; · iexact Hv
  isplitl [HO]; · iexists _; iexact HO
  isplitl [HaS HaV]
  · isplitl [HaS]; · iexact HaS
    isplitl [HaV]; · iexact HaV
    isplitr; · iexact HrS
    iexact HrV
  isplitr; · iexact HrC
  iexact HrB

/-- Granting the sending neighbour the slot a finished hop left. -/
theorem grant_spec (p : ℕ) (d : Fin 2) (h : Fin 5) (s : Fin 2) (hp : p < 2) (hs : s = slot h) (l : List Code) (n : Dev nD) (hn : n = up d c) :
    iprop(Ctx I K ∗ scrap c (vC d s) ∗ ow c (.grant p d h :: l) ∗ dutyTok ER (cell (up d c) (.cred d)) (5 * p + h) 0
        ∗ reached ER (cell (up d c) (.cred d)) (5 * p + h))
      ⊢ iprop((ow c l -∗ Wp c (k ⟨⟩) Q) -∗ Wp c (grant d n >>= k) Q) := by
  subst hs hn
  unfold grant
  simp only [semSignalWord, Prog.lift, Prog.bind_op, Prog.bind_ret, Prog.pure_eq_ret]
  unfold ow
  have h5 : h.val < 5 := h.isLt
  iintro ⟨#HC, Hs, ⟨%W, HO⟩, Ht, #Hr⟩ Hk
  rw [due_cons]
  iapply (Rounds.wp_signal 𝒱₀ ER (Rd I) (c : Thread nD τ) none (dst := (up d c : Thread nD τ)) (κ := K (up d c, .cred d)) (r := 5 * p + h)
      (d := 0) (by
        show (0 : Fin 2) ∈ (Rd I).duties (cell (up d c) (.cred d)) (5 * p + h)
        rw [duties_eq]; exact mem_one (by omega)) ((amount_eq I (up d c) (.cred d) _ _).trans (show 1 = (1#32).toNat from rfl)) (Code.lev (.grant p d h)) (due c l) rfl)
    $$ [HO Ht Hs]
  · isplitr; · iapply (ctx_inv I K (up d c) (.cred d)); iexact HC
    isplitl [HO]; · iexact HO
    isplitl [Ht]; · iexact Ht
    isplitl [Hs]
    · rw [show (Rd I).payload ((up d c : Thread nD τ), .reg (sCred d)) (5 * p + h) 0 = payOf I (up d c) (5 * p + h) 0 (.cred d) from payload_eq I (up d c) (.cred d) _ _]
      unfold payOf
      dsimp only
      rw [down_up, show (5 * p + h.val) % 5 = h.val by omega]
      iexact Hs
    · iexact Hr
  iintro HO
  iapply Hk
  iexists W; iexact HO

/-- Taking the receiving neighbour's grant. -/
theorem take_spec (p : ℕ) (d : Fin 2) (h : Fin 5) (s : Fin 2) (hp : p < 2) (hs : s = slot h) (l : List Code)
    (hl : ∀ x ∈ l, 40 * p + 3 + 4 * h.val + d.val < x.lev ∧ x.lev < top) :
    iprop(Ctx I K ∗ ow c l ∗ atPos ER (cell c (.cred d)) (5 * p + h) ∅ 0 ∗ cred (tallyAt (cell c (.cred d)) (40 * p + 3 + 4 * h.val + d.val) 1))
      ⊢ iprop((iprop(ow c l ∗ scrap (down d c) (vC d s) ∗ atPos ER (cell c (.cred d)) (5 * p + h + 1) ∅ 0
            ∗ reached ER (cell c (.cred d)) (5 * p + h + 1)) -∗ Wp c (k ⟨⟩) Q) -∗ Wp c (take d >>= k) Q) := by
  subst hs
  unfold take
  simp only [semWaitWord, Prog.lift, Prog.bind_op, Prog.bind_ret, Prog.pure_eq_ret]
  unfold ow
  have h5 : h.val < 5 := h.isLt
  have hd2 : d.val < 2 := d.isLt
  have hd : dutOf (5 * p + h) (.cred d) = {0} := if_pos (by omega)
  iintro ⟨#HC, ⟨%W, HO⟩, Hat, Hc⟩ Hk
  iapply (Rounds.wp_wait_rest_token 𝒱₀ ER (Rd I) (c : Thread nD τ) none (sm := Cid.sem (.cred d)) (k' := 1)
      (κ := K (c, .cred d))
      (wpE_semWait_eq 𝒱₀ (c : Thread nD τ) none Set.univ) (Set.mem_univ _) (40 * p + 3 + 4 * h.val + d.val) (O := due c l) (W := W) (R := 5 * p + h) (m := 0) (T := ∅)
      (by exact (Nat.zero_add _).trans (expect_one I c (.cred d) _ hd).symm)) $$ [Hc HO Hat]
  · isplitr; · iapply (ctx_inv I K c (.cred d)); iexact HC
    isplitl [Hc]; · iexact Hc
    isplitl [HO]; · iexact HO
    isplitr
    · iapply (mayWait c (.reg (sCred d)) (40 * p + 3 + 4 * h.val + d.val) l (show _ < 200 by omega) hl); iapply (ctx_lev I K); iexact HC
    iexact Hat
  iintro ⟨HO, Hat, #Hr, Hp⟩
  ihave Hp := (Entails.of_eq (rest_one I c (.cred d) _ hd)) $$ Hp
  unfold payOf
  rw [show (5 * p + h.val) % 5 = h.val by omega]
  iapply Hk
  isplitl [HO]; · iexists _; iexact HO
  isplitl [Hp]; · iexact Hp
  isplitl [Hat]; · iexact Hat
  iexact Hr

/-- What a device brings to the barrier for its neighbour in direction `d`: the slot that neighbour's first hop fills. -/
def brings (p : ℕ) (d : Fin 2) (c : Dev nD) : sProp 𝕄 :=
  iprop(scrap c (vC d 1) ∗ recvR d p c ∗ dutyTok ER (cell (up d c) .bar) p d ∗ reached ER (cell (up d c) .bar) p)

/-- One signal at the barrier. -/
theorem signal_spec (p : ℕ) (d : Fin 2) (hp : p < 2) (l : List Code) (n : Dev nD) (hn : n = up d c) {k' : PUnit → Prog (TpuEff nD τ sig (Elt F) Λ₀ .tc) α} :
    iprop(Ctx I K ∗ brings p d c ∗ ow c (.bar p d :: l))
      ⊢ iprop((ow c l -∗ Wp c (k' ⟨⟩) Q) -∗ Wp c (semSignalWord n sBar 1#32 >>= k') Q) := by
  subst hn
  simp only [semSignalWord, Prog.lift, Prog.bind_op, Prog.bind_ret, Prog.pure_eq_ret]
  unfold ow brings
  iintro ⟨#HC, ⟨Hs, #HrV, Ht, #Hr⟩, ⟨%W, HO⟩⟩ Hk
  rw [due_cons]
  iapply (Rounds.wp_signal 𝒱₀ ER (Rd I) (c : Thread nD τ) none (dst := (up d c : Thread nD τ)) (κ := K (up d c, .bar)) (r := p)
      (d := d) (by
        show d ∈ (Rd I).duties (cell (up d c) .bar) p
        rw [duties_eq]; show d ∈ (if p < 2 then Finset.univ else ∅); rw [if_pos hp]; exact Finset.mem_univ _)
      ((amount_eq I (up d c) .bar _ _).trans (show 1 = (1#32).toNat from rfl)) (Code.lev (.bar p d)) (due c l) rfl)
    $$ [HO Ht Hs]
  · isplitr; · iapply (ctx_inv I K (up d c) .bar); iexact HC
    isplitl [HO]; · iexact HO
    isplitl [Ht]; · iexact Ht
    isplitl [Hs]
    · rw [show (Rd I).payload ((up d c : Thread nD τ), .reg sBar) p d = payOf I (up d c) p d .bar from payload_eq I (up d c) .bar _ _]
      unfold payOf
      dsimp only
      rw [down_up]
      isplitl [Hs]; · iexact Hs
      iexact HrV
    · iexact Hr
  iintro HO
  iapply Hk
  iexists W; iexact HO

/-- Meeting both neighbours: each brings the slot the first hop to it fills. -/
theorem meet_spec (p : ℕ) (hp : p < 2) (l : List Code) (hl : ∀ x ∈ l, 40 * p + 1 < x.lev ∧ x.lev < top) (a b : Dev nD) (ha : a = up 0 c) (hb : b = up 1 c) :
    iprop(Ctx I K ∗ brings p 0 c ∗ brings p 1 c ∗ ow c (.bar p 0 :: .bar p 1 :: l) ∗ atPos ER (cell c .bar) p ∅ 0
        ∗ cred (tallyAt (cell c .bar) (40 * p + 1) 2))
      ⊢ iprop((iprop(ow c l ∗ atPos ER (cell c .bar) (p + 1) ∅ 0 ∗ reached ER (cell c .bar) (p + 1)
            ∗ (scrap (down 0 c) (vC 0 1) ∗ recvR 0 p (down 0 c)) ∗ (scrap (down 1 c) (vC 1 1) ∗ recvR 1 p (down 1 c))) -∗ Wp c (k ⟨⟩) Q)
          -∗ Wp c (meet a b >>= k) Q) := by
  unfold meet
  simp only [bind_assoc]
  iintro ⟨#HC, H0, H1, HO, Hat, Hc⟩ Hk
  iapply (signal_spec I K c p 0 hp (.bar p 1 :: l) a ha) $$ [H0 HO]
  · isplitr; · iexact HC
    isplitl [H0] <;> iassumption
  iintro HO
  iapply (signal_spec I K c p 1 hp l b hb) $$ [H1 HO]
  · isplitr; · iexact HC
    isplitl [H1] <;> iassumption
  iintro HO
  simp only [semWaitWord, Prog.lift, Prog.bind_op, Prog.bind_ret, Prog.pure_eq_ret]
  unfold ow
  icases HO with ⟨%W, HO⟩
  iapply (Rounds.wp_wait_rest_token 𝒱₀ ER (Rd I) (c : Thread nD τ) none (sm := Cid.sem .bar) (k' := 2)
      (κ := K (c, .bar))
      (wpE_semWait_eq 𝒱₀ (c : Thread nD τ) none Set.univ) (Set.mem_univ _) (40 * p + 1) (O := due c l) (W := W) (R := p) (m := 0) (T := ∅)
      (by exact (Nat.zero_add _).trans (expect_bar I c _ hp).symm)) $$ [Hc HO Hat]
  · isplitr; · iapply (ctx_inv I K c .bar); iexact HC
    isplitl [Hc]; · iexact Hc
    isplitl [HO]; · iexact HO
    isplitr
    · iapply (mayWait c (.reg sBar) (40 * p + 1) l (show _ < 200 by omega) hl); iapply (ctx_lev I K); iexact HC
    iexact Hat
  iintro ⟨HO, Hat, #Hr, Hp⟩
  ihave Hp := (Entails.of_eq (rest_bar I c _ hp)) $$ Hp
  unfold payOf
  icases Hp with ⟨H0, H1⟩
  iapply Hk
  isplitl [HO]; · iexists _; iexact HO
  isplitl [Hat]; · iexact Hat
  isplitr; · iexact Hr
  isplitl [H0]; · iexact H0
  iexact H1

end Comm

end Cert.KernelIdeal.Run
-- ==== Proof.Run.Turns.lean ====
module

public import proofs.«01_k».proof.Proof.Run.Comm

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

/-! ## The state of a direction -/

section State
variable (I : Inp F) (p : ℕ) (d : Fin 2) (c : Dev nD)

/-- A hop's positions at pass `p`. -/
def HopPos (h : Fin 6) : sProp 𝕄 :=
  iprop(atPos ER (cell c (.send d h)) p ∅ 0 ∗ atPos ER (cell c (.recv d h)) p ∅ 0
    ∗ reached ER (cell c (.send d h)) p ∗ reached ER (cell c (.recv d h)) p ∗ reached ER (cell (up d c) .bar) p)
/-- A hop's tokens in pass `p`. -/
def HopTk (h : Fin 6) : sProp 𝕄 :=
  iprop(dutyTok ER (cell c (.send d h)) p 0 ∗ dutyTok ER (cell (down d c) (.recv d h)) p 0
    ∗ cred (tallyAt (cell c (.recv d h)) (40 * p + 2 + 4 * h.val) N))
/-- A hop on its way. -/
def Fly (h : Fin 6) : sProp 𝕄 :=
  iprop(has c (vC d (slot h)) fullShare.left (sent I p d h c) ∗ cred (tallyAt (cell c (.send d h)) 0 N)
    ∗ (atPos ER (cell c (.send d h)) p ∅ 0 ∗ atPos ER (cell c (.recv d h)) p ∅ 0)
    ∗ cred (tallyAt (cell c (.recv d h)) (40 * p + 2 + 4 * h.val) N))
/-- A grant's token and the credit of the grant in return. -/
def GrTk (g : Fin 5) : sProp 𝕄 :=
  iprop(dutyTok ER (cell (up d c) (.cred d)) (5 * p + g) 0 ∗ cred (tallyAt (cell c (.cred d)) (40 * p + 3 + 4 * g.val + d.val) 1))
/-- A position of the grants. -/
def CrPos (r : ℕ) : sProp 𝕄 := iprop(atPos ER (cell c (.cred d)) r ∅ 0 ∗ reached ER (cell c (.cred d)) r)
/-- A position of the copies into the result. -/
def OutPos (r : ℕ) : sProp 𝕄 := iprop(atPos ER (cell c (.out d)) r ∅ 0 ∗ reached ER (cell c (.out d)) r)
/-- What is known of the neighbours after the barrier. -/
def Met : sProp 𝕄 := iprop(recvR d p (down d c) ∗ reached ER (cell c .bar) (p + 1))
/-- What is known of the neighbours stays known. -/
instance Met_persistent : BI.Persistent (Met (F := F) p d c) := by unfold Met; infer_instance

/-- All that goes from one hop to the next. -/
def Turn (g : Fin 5) : sProp 𝕄 := iprop(GrTk p d c g ∗ HopPos p d c g.succ ∗ HopTk p d c g.succ)
/-- A copy into the result that is to come. -/
def Row (k : Fin 4) : sProp 𝕄 := iprop(scrap c (vO (finRow p d k c)) ∗ dutyTok ER (cell c (.out d)) (4 * p + k) 0)
/-- A block of the result. -/
def Done (k : Fin 4) : sProp 𝕄 := has c (vO (finRow p d k c)) fullShare (fin I p d k c)
/-- A copy into the result on its way. -/
def OutFly (k : Fin 4) : sProp 𝕄 := iprop(cred (tallyAt (cell c (.out d)) 0 No) ∗ atPos ER (cell c (.out d)) (4 * p + k) ∅ 0)

end State

/-- What the steps of pass `p` name: the devices and the rows. -/
def nice (c : Dev nD) (p : ℕ) : Args where
  bar d := up d c
  hops _ d := down d c
  backs _ d := up d c
  x k d := xrow (ch p d (go d k c))
  o k d := finRow p d k c

variable (I : Inp F) (K : Dev nD × Cid → ℕ) (c : Dev nD)

section Turns
variable {α : Type} {k : PUnit → Prog (TpuEff nD τ sig (Elt F) Λ₀ .tc) α} {Q : α → sProp (MT nD τ sig ℕ (Elt F) ℕ UU ℕ)}

/-- Starting a hop with its tokens. -/
theorem hop_fly (p : ℕ) (d : Fin 2) (h : Fin 6) (s s' : Fin 2) (hp : p < 2) (hs : s = slot h) (hs' : s' = slot (h + 1)) (l : List Code) (n : Dev nD)
    (hn : n = down d c) :
    iprop(Ctx I K ∗ has c (vC d s) fullShare (sent I p d h c) ∗ scrap (down d c) (vC d s') ∗ ow c (.hop p d h :: l)
        ∗ HopPos p d c h ∗ HopTk p d c h ∗ Met p d c ∗ reached ER (cell c (.cred d)) (5 * p + h))
      ⊢ iprop((iprop(Fly I p d c h ∗ ow c l) -∗ Wp c (k ⟨⟩) Q) -∗ Wp c (hop d h s s' n >>= k) Q) := by
  unfold HopPos HopTk Met Fly
  subst hs
  iintro ⟨#HC, Hs, Hd, HO, ⟨HaS, HaV, #HrS, #HrV, #Hb⟩, ⟨HtS, HtV, Hc⟩, ⟨#Hm, #HB⟩, #HrC⟩ Hk
  iapply (hop_spec I K c p d h (slot h) s' hp rfl hs' l n hn) $$ [Hs Hd HO HtS HtV]
  · isplitr; · iexact HC
    isplitl [Hs]; · iexact Hs
    isplitl [Hd]; · iexact Hd
    isplitl [HO]; · iexact HO
    isplitl [HtS]
    · isplitl [HtS]; · iexact HtS
      iexact HrS
    isplitl [HtV]; · iexact HtV
    isplitr; · iexact Hm
    isplitr; · iexact HrC
    iexact HB
  iintro ⟨Hs, HcS, HO⟩
  iapply Hk
  isplitr [HO]
  · isplitl [Hs]; · iexact Hs
    isplitl [HcS]; · iexact HcS
    isplitl [HaS HaV]
    · isplitl [HaS] <;> iassumption
    iexact Hc
  iexact HO

/-- The end of a hop. -/
theorem await_fly (p : ℕ) (d : Fin 2) (h : Fin 6) (s s' : Fin 2) (hp : p < 2) (hs : s = slot h) (hs' : s' = slot (h + 1)) (l : List Code)
    (hl : ∀ x ∈ l, 40 * p + 2 + 4 * h.val < x.lev ∧ x.lev < top) :
    iprop(Ctx I K ∗ Fly I p d c h ∗ ow c l)
      ⊢ iprop((iprop(has c (vC d s) fullShare (sent I p d h c) ∗ has c (vC d s') fullShare (sent I p d h (up d c)) ∗ ow c l
            ∗ HopPos (p + 1) d c h ∗ reached ER (cell (up d c) (.cred d)) (5 * p + h)) -∗ Wp c (k ⟨⟩) Q)
          -∗ Wp c (await d h s s' >>= k) Q) := by
  unfold HopPos Fly
  subst hs
  iintro ⟨#HC, ⟨Hs, Hc, Ha, HcV⟩, HO⟩ Hk
  iapply (await_spec I K c p d h (slot h) s' hp rfl hs' l hl) $$ [Hs Hc Ha HcV HO]
  · isplitr; · iexact HC
    isplitl [Hs]; · iexact Hs
    isplitl [Hc]; · iexact Hc
    isplitl [HO]; · iexact HO
    isplitl [Ha] <;> iassumption
  iintro ⟨Hs, Hv, HO, ⟨HaS, HaV, #HrS, #HrV⟩, #Hcr, #Hb⟩
  iapply Hk
  isplitl [Hs]; · iexact Hs
  isplitl [Hv]; · iexact Hv
  isplitl [HO]; · iexact HO
  isplitl [HaS HaV]
  · isplitl [HaS]; · iexact HaS
    isplitl [HaV]; · iexact HaV
    isplitr; · iexact HrS
    isplitr; · iexact HrV
    iexact Hb
  iexact Hcr

/-- The end of a hop, and the grant of the slot it left. -/
theorem free_spec (p : ℕ) (d : Fin 2) (g : Fin 5) (s s' : Fin 2) (hp : p < 2) (hs : s = slot g) (hs' : s' = slot (g + 1)) (l : List Code)
    (hl : ∀ x ∈ Code.grant p d g :: l, 40 * p + 2 + 4 * g.val < x.lev ∧ x.lev < top) (n : Dev nD) (hn : n = up d c) :
    iprop(Ctx I K ∗ Fly I p d c g.castSucc ∗ ow c (.grant p d g :: l) ∗ dutyTok ER (cell (up d c) (.cred d)) (5 * p + g) 0)
      ⊢ iprop((iprop(has c (vC d s') fullShare (sent I p d g (up d c)) ∗ ow c l ∗ HopPos (p + 1) d c g.castSucc) -∗ Wp c (k ⟨⟩) Q)
          -∗ Wp c (await d g.castSucc s s' >>= fun _ => grant d n >>= k) Q) := by
  iintro ⟨#HC, Hf, HO, Ht⟩ Hk
  iapply (await_fly I K c p d g.castSucc s s' hp hs hs' (.grant p d g :: l) hl) $$ [Hf HO]
  · isplitr; · iexact HC
    isplitl [Hf] <;> iassumption
  iintro ⟨Hs, Hv, HO, HP, #Hr⟩
  ihave Hs := (has_scrap c (vC d s) _) $$ Hs
  iapply (grant_spec I K c p d g s hp hs l n hn) $$ [Hs HO Ht]
  · isplitr; · iexact HC
    isplitl [Hs]; · iexact Hs
    isplitl [HO]; · iexact HO
    isplitl [Ht]; · iexact Ht
    iexact Hr
  iintro HO
  iapply Hk
  isplitl [Hv]; · iexact Hv
  isplitl [HO]; · iexact HO
  iexact HP

/-- Taking a grant, and the hop it allows. -/
theorem onward_spec (p : ℕ) (d : Fin 2) (g : Fin 5) (s s' : Fin 2) (hp : p < 2) (hs : s = slot g) (hs' : s' = slot (g + 1)) (l : List Code)
    (hl : ∀ x ∈ Code.hop p d g.succ :: l, 40 * p + 3 + 4 * g.val + d.val < x.lev ∧ x.lev < top) (n : Dev nD) (hn : n = down d c) :
    iprop(Ctx I K ∗ has c (vC d s') fullShare (sent I p d (g + 1) c) ∗ ow c (.hop p d g.succ :: l) ∗ CrPos d c (5 * p + g)
        ∗ cred (tallyAt (cell c (.cred d)) (40 * p + 3 + 4 * g.val + d.val) 1) ∗ HopPos p d c g.succ ∗ HopTk p d c g.succ ∗ Met p d c)
      ⊢ iprop((iprop(Fly I p d c g.succ ∗ ow c l ∗ CrPos d c (5 * p + (g + 1))) -∗ Wp c (k ⟨⟩) Q)
          -∗ Wp c (take d >>= fun _ => hop d g.succ s' s n >>= k) Q) := by
  unfold CrPos
  have hs2 : s = slot (g.succ.val + 1) := by subst hs; apply Fin.ext; show g.val % 2 = (g.val + 1 + 1) % 2; omega
  have hs3 : s' = slot g.succ := hs'
  iintro ⟨#HC, Hs, HO, ⟨Ha, -⟩, Hc, HP, HT, #HM⟩ Hk
  iapply (take_spec I K c p d g s hp hs _ hl) $$ [HO Ha Hc]
  · isplitr; · iexact HC
    isplitl [HO]; · iexact HO
    isplitl [Ha] <;> iassumption
  iintro ⟨HO, Hd, Ha, #Hr⟩
  iapply (hop_fly I K c p d g.succ s' s hp hs3 hs2 l n hn) $$ [Hs Hd HO HP HT]
  · isplitr; · iexact HC
    isplitl [Hs]; · iexact Hs
    isplitl [Hd]; · iexact Hd
    isplitl [HO]; · iexact HO
    isplitl [HP]; · iexact HP
    isplitl [HT]; · iexact HT
    isplitr; · iexact HM
    iexact Hr
  iintro ⟨Hf, HO⟩
  iapply Hk
  isplitl [Hf]; · iexact Hf
  isplitl [HO]; · iexact HO
  isplitl [Ha]; · iexact Ha
  iexact Hr

/-- A step of the reduction. -/
theorem reduce_spec (p : ℕ) (d : Fin 2) (g : Fin 5) (s s' : Fin 2) (hp : p < 2) (hs : s = slot g) (hs' : s' = slot (g + 1)) (l : List Code)
    (hl : ∀ x ∈ Code.grant p d g :: Code.hop p d g.succ :: l, 40 * p + 2 + 4 * g.val < x.lev ∧ x.lev < top)
    (hl' : ∀ x ∈ Code.hop p d g.succ :: l, 40 * p + 3 + 4 * g.val + d.val < x.lev ∧ x.lev < top)
    (B : M32 F) (he : sent I p d (g + 1) c = nar (plus B (wid (sent I p d g (up d c))))) :
    iprop(Ctx I K ∗ Met p d c ∗ Fly I p d c g.castSucc ∗ has c (vS d) fullShare B ∗ CrPos d c (5 * p + g) ∗ Turn p d c g
        ∗ ow c (.grant p d g :: .hop p d g.succ :: l))
      ⊢ iprop((iprop(Fly I p d c g.succ ∗ scrap c (vS d) ∗ CrPos d c (5 * p + (g + 1)) ∗ HopPos (p + 1) d c g.castSucc ∗ ow c l) -∗ Wp c (k ⟨⟩) Q)
          -∗ Wp c (reduce (nice c p) d g.castSucc g g.succ s s' >>= k) Q) := by
  unfold reduce Turn GrTk
  simp only [bind_assoc]
  iintro ⟨#HC, #HM, Hf, HS, HR, ⟨⟨Ht, Hc⟩, HP, HT⟩, HO⟩ Hk
  iapply (free_spec I K c p d g s s' hp hs hs' _ hl ((nice c p).backs g d) rfl) $$ [Hf HO Ht]
  · isplitr; · iexact HC
    isplitl [Hf]; · iexact Hf
    isplitl [HO] <;> iassumption
  iintro ⟨Hv, HO, HD⟩
  iapply (join_spec c d s' B (sent I p d g (up d c))) $$ [HS Hv]
  · isplitl [HS] <;> iassumption
  iintro ⟨HS, Hv⟩
  rw [← he]
  iapply (onward_spec I K c p d g s s' hp hs hs' l hl' ((nice c p).hops g.succ d) rfl) $$ [Hv HO HR Hc HP HT]
  · isplitr; · iexact HC
    isplitl [Hv]; · iexact Hv
    isplitl [HO]; · iexact HO
    isplitl [HR]; · iexact HR
    isplitl [Hc]; · iexact Hc
    isplitl [HP]; · iexact HP
    isplitl [HT]; · iexact HT
    iexact HM
  iintro ⟨Hf, HO, HR⟩
  iapply Hk
  isplitl [Hf]; · iexact Hf
  isplitl [HS]; · iexact HS
  isplitl [HR]; · iexact HR
  isplitl [HD] <;> iassumption

/-- A relaying step of the gathering. -/
theorem relay_spec (p : ℕ) (d : Fin 2) (g : Fin 5) (s s' : Fin 2) (hp : p < 2) (hs : s = slot g) (hs' : s' = slot (g + 1)) (l : List Code)
    (hl : ∀ x ∈ Code.grant p d g :: Code.hop p d g.succ :: l, 40 * p + 2 + 4 * g.val < x.lev ∧ x.lev < top)
    (hl' : ∀ x ∈ Code.hop p d g.succ :: l, 40 * p + 3 + 4 * g.val + d.val < x.lev ∧ x.lev < top)
    (he : sent I p d (g + 1) c = sent I p d g (up d c)) :
    iprop(Ctx I K ∗ Met p d c ∗ Fly I p d c g.castSucc ∗ CrPos d c (5 * p + g) ∗ Turn p d c g
        ∗ ow c (.grant p d g :: .hop p d g.succ :: l))
      ⊢ iprop((iprop(Fly I p d c g.succ ∗ CrPos d c (5 * p + (g + 1)) ∗ HopPos (p + 1) d c g.castSucc ∗ ow c l) -∗ Wp c (k ⟨⟩) Q)
          -∗ Wp c (relay (nice c p) d g.castSucc g g.succ s s' >>= k) Q) := by
  unfold relay Turn GrTk
  simp only [bind_assoc]
  iintro ⟨#HC, #HM, Hf, HR, ⟨⟨Ht, Hc⟩, HP, HT⟩, HO⟩ Hk
  iapply (free_spec I K c p d g s s' hp hs hs' _ hl ((nice c p).backs g d) rfl) $$ [Hf HO Ht]
  · isplitr; · iexact HC
    isplitl [Hf]; · iexact Hf
    isplitl [HO] <;> iassumption
  rw [← he]
  iintro ⟨Hv, HO, HD⟩
  iapply (onward_spec I K c p d g s s' hp hs hs' l hl' ((nice c p).hops g.succ d) rfl) $$ [Hv HO HR Hc HP HT]
  · isplitr; · iexact HC
    isplitl [Hv]; · iexact Hv
    isplitl [HO]; · iexact HO
    isplitl [HR]; · iexact HR
    isplitl [Hc]; · iexact Hc
    isplitl [HP]; · iexact HP
    isplitl [HT]; · iexact HT
    iexact HM
  iintro ⟨Hf, HO, HR⟩
  iapply Hk
  isplitl [Hf]; · iexact Hf
  isplitl [HR]; · iexact HR
  isplitl [HD] <;> iassumption

/-- A copy into the result. -/
theorem out_fly (p : ℕ) (d : Fin 2) (n : Fin 4) (hp : p < 2) (o : ORow) (ho : o = finRow p d n c) :
    iprop(Ctx I K ∗ has c (vS d) fullShare (fin I p d n c) ∗ Row p d c n ∗ OutPos d c (4 * p + n))
      ⊢ iprop((OutFly p d c n -∗ Wp c (k ⟨⟩) Q) -∗ Wp c (out d o >>= k) Q) := by
  subst ho
  unfold Row OutPos OutFly
  iintro ⟨#HC, Hs, ⟨Ho, Ht⟩, Ha, #Hr⟩ Hk
  iapply (out_spec I K c p d n hp n.isLt) $$ [Hs Ho Ht]
  · isplitr; · iexact HC
    isplitl [Hs]; · iexact Hs
    isplitl [Ho]; · iexact Ho
    isplitl [Ht]; · iexact Ht
    iexact Hr
  iintro Hc
  iapply Hk
  isplitl [Hc] <;> iassumption

/-- The last step of the reduction: the scaled sum goes into the result and round the ring. -/
theorem reduceLast_spec (p : ℕ) (d : Fin 2) (hp : p < 2) (l : List Code) (sc : F .f32) (hsc : I.sc c = sc)
    (hl : ∀ x ∈ Code.grant p d 2 :: Code.hop p d 3 :: l, 40 * p + 2 + 4 * 2 < x.lev ∧ x.lev < top)
    (hl' : ∀ x ∈ Code.hop p d 3 :: l, 40 * p + 3 + 4 * 2 + d.val < x.lev ∧ x.lev < top) :
    iprop(Ctx I K ∗ Met p d c ∗ Fly I p d c 2 ∗ has c (vS d) fullShare (part I (ch p d (go d 3 c)) c) ∗ CrPos d c (5 * p + 2) ∗ Turn p d c 2
        ∗ Row p d c 0 ∗ OutPos d c (4 * p) ∗ ow c (.grant p d 2 :: .hop p d 3 :: l))
      ⊢ iprop((iprop(Fly I p d c 3 ∗ CrPos d c (5 * p + 3) ∗ HopPos (p + 1) d c 2 ∗ OutFly p d c 0 ∗ ow c l) -∗ Wp c (k ⟨⟩) Q)
          -∗ Wp c (reduceLast (nice c p) sc d >>= k) Q) := by
  subst hsc
  unfold reduceLast Turn GrTk
  simp only [bind_assoc]
  iintro ⟨#HC, #HM, Hf, HS, HR, ⟨⟨Ht, Hc⟩, HP, HT⟩, HRow, HOut, HO⟩ Hk
  iapply (free_spec I K c p d 2 0 1 hp rfl rfl _ hl ((nice c p).backs 2 d) rfl) $$ [Hf HO Ht]
  · isplitr; · iexact HC
    isplitl [Hf]; · iexact Hf
    isplitl [HO] <;> iassumption
  iintro ⟨Hv, HO, HD⟩
  iapply (finish_spec c d 1 (I.sc c) (part I (ch p d (go d 3 c)) c) (sent I p d 2 (up d c))) $$ [HS Hv]
  · isplitl [HS]; · iexact HS
    iexact Hv
  iintro ⟨HS, Hv⟩
  ihave Hv := (has_scrap c (vC d 1) _) $$ Hv
  iapply (recast_spec c d 1 (fin I p d 0 c)) $$ [HS Hv]
  · isplitl [HS]; · iexact HS
    iexact Hv
  iintro ⟨HS, Hv⟩
  iapply (onward_spec I K c p d 2 0 1 hp rfl rfl l hl' ((nice c p).hops 3 d) rfl) $$ [Hv HO HR Hc HP HT]
  · isplitr; · iexact HC
    isplitl [Hv]; · iexact Hv
    isplitl [HO]; · iexact HO
    isplitl [HR]; · iexact HR
    isplitl [Hc]; · iexact Hc
    isplitl [HP]; · iexact HP
    isplitl [HT]; · iexact HT
    iexact HM
  iintro ⟨Hf, HO, HR⟩
  iapply (out_fly I K c p d 0 hp _ rfl) $$ [HS HRow HOut]
  · isplitr; · iexact HC
    isplitl [HS]; · iexact HS
    isplitl [HRow] <;> iassumption
  iintro HF
  iapply Hk
  isplitl [Hf]; · iexact Hf
  isplitl [HR]; · iexact HR
  isplitl [HD]; · iexact HD
  isplitl [HF] <;> iassumption

/-- The end of a copy into the result. -/
theorem landed (p : ℕ) (d : Fin 2) (n : Fin 4) (hp : p < 2) (l : List Code) (hl : ∀ x ∈ l, 0 < x.lev ∧ x.lev < top) (o : ORow) (ho : o = finRow p d n c) :
    iprop(Ctx I K ∗ OutFly p d c n ∗ ow c l)
      ⊢ iprop((iprop(OutPos d c (4 * p + n + 1) ∗ Done I p d c n ∗ scrap c (vS d) ∗ ow c l) -∗ Wp c (k ⟨⟩) Q)
          -∗ Wp c (outWait d o >>= k) Q) := by
  subst ho
  unfold OutFly OutPos Done
  iintro ⟨#HC, ⟨Hc, Ha⟩, HO⟩ Hk
  iapply (outWait_spec I K c p d n hp n.isLt l hl) $$ [Hc Ha HO]
  · isplitr; · iexact HC
    isplitl [Hc]; · iexact Hc
    isplitl [HO] <;> iassumption
  iintro ⟨HO, Ha, #Hr, HD, HS⟩
  iapply Hk
  isplitl [Ha]
  · isplitl [Ha]; · iexact Ha
    iexact Hr
  isplitl [HD]; · iexact HD
  isplitl [HS] <;> iassumption

/-- A received block on its way into the result. -/
theorem deliver_spec (p : ℕ) (d s : Fin 2) (n n' : Fin 4) (hp : p < 2) (hn : n'.val = n.val + 1) (l : List Code) (hl : ∀ x ∈ l, 0 < x.lev ∧ x.lev < top)
    (q : PosShare TreeShare) (B : M16 F) (hB : fin I p d n' c = wid B) :
    iprop(Ctx I K ∗ OutFly p d c n ∗ Row p d c n' ∗ has c (vC d s) q B ∗ ow c l)
      ⊢ iprop((iprop(OutFly p d c n' ∗ Done I p d c n ∗ has c (vC d s) q B ∗ ow c l) -∗ Wp c (k ⟨⟩) Q)
          -∗ Wp c (deliver (nice c p) d s n n' >>= k) Q) := by
  unfold deliver
  simp only [bind_assoc]
  iintro ⟨#HC, HF, HR, Hb, HO⟩ Hk
  iapply (landed I K c p d n hp l hl _ rfl) $$ [HF HO]
  · isplitr; · iexact HC
    isplitl [HF] <;> iassumption
  iintro ⟨HP, HD, HS, HO⟩
  iapply (expand_spec c d s q B) $$ [Hb HS]
  · isplitl [Hb] <;> iassumption
  iintro ⟨Hb, HS⟩
  rw [← hB, show 4 * p + n.val + 1 = 4 * p + n'.val by omega]
  iapply (out_fly I K c p d n' hp _ rfl) $$ [HS HR HP]
  · isplitr; · iexact HC
    isplitl [HS]; · iexact HS
    isplitl [HR] <;> iassumption
  iintro HF
  iapply Hk
  isplitl [HF]; · iexact HF
  isplitl [HD]; · iexact HD
  isplitl [Hb] <;> iassumption

end Turns

end Cert.KernelIdeal.Run
-- ==== Proof.Run.Pass.lean ====
module

public import proofs.«01_k».proof.Proof.Run.Turns

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

/-! ## What a pass takes and gives back, by direction -/

section State
variable (I : Inp F) (p : ℕ) (d : Fin 2) (c : Dev nD)

/-- The positions a pass starts from. -/
def Start : sProp 𝕄 :=
  iprop((HopPos p d c 0 ∗ HopPos p d c 1 ∗ HopPos p d c 2 ∗ HopPos p d c 3 ∗ HopPos p d c 4 ∗ HopPos p d c 5)
    ∗ CrPos d c (5 * p) ∗ OutPos d c (4 * p))
/-- The tokens a pass uses up. -/
def Toks : sProp 𝕄 :=
  iprop((HopTk p d c 0 ∗ HopTk p d c 1 ∗ HopTk p d c 2 ∗ HopTk p d c 3 ∗ HopTk p d c 4 ∗ HopTk p d c 5)
    ∗ (GrTk p d c 0 ∗ GrTk p d c 1 ∗ GrTk p d c 2 ∗ GrTk p d c 3 ∗ GrTk p d c 4)
    ∗ dutyTok ER (cell (up d c) .bar) p d)
/-- The rows a pass fills. -/
def Rows : sProp 𝕄 := iprop(Row p d c 0 ∗ Row p d c 1 ∗ Row p d c 2 ∗ Row p d c 3)
/-- The rows filled. -/
def Filled : sProp 𝕄 := iprop(Done I p d c 0 ∗ Done I p d c 1 ∗ Done I p d c 2 ∗ Done I p d c 3)
/-- The buffers of a direction. -/
def Buf : sProp 𝕄 := iprop(scrap c (vC d 0) ∗ scrap c (vC d 1) ∗ scrap c (vS d))

/-- All a direction needs after the barrier. -/
def Ready : sProp 𝕄 :=
  iprop((scrap c (vC d 0) ∗ scrap c (vS d)) ∗ (HopPos p d c 0 ∗ HopTk p d c 0) ∗ (Turn p d c 0 ∗ Turn p d c 1 ∗ Turn p d c 2)
    ∗ CrPos d c (5 * p) ∗ OutPos d c (4 * p) ∗ Row p d c 0
    ∗ (Turn p d c 3 ∗ Turn p d c 4) ∗ (Row p d c 1 ∗ Row p d c 2 ∗ Row p d c 3))

/-- After the reduction. -/
def Half : sProp 𝕄 :=
  iprop(Fly I p d c 3 ∗ CrPos d c (5 * p + 3) ∗ OutFly p d c 0 ∗ (Turn p d c 3 ∗ Turn p d c 4) ∗ (Row p d c 1 ∗ Row p d c 2 ∗ Row p d c 3)
    ∗ (HopPos (p + 1) d c 0 ∗ HopPos (p + 1) d c 1 ∗ HopPos (p + 1) d c 2))

/-- The marks of the receive cells, from the positions. -/
theorem marks : iprop(reached ER (cell c (.recv d 0)) p ∗ reached ER (cell c (.recv d 1)) p ∗ reached ER (cell c (.recv d 2)) p
      ∗ reached ER (cell c (.recv d 3)) p ∗ reached ER (cell c (.recv d 4)) p ∗ reached ER (cell c (.recv d 5)) p) ⊢ (recvR d p c : sProp 𝕄) := by
  unfold recvR
  rw [bigSep_univ_eq_bigSepL [0, 1, 2, 3, 4, 5] (by decide) (by decide)]
  exact .rfl

/-- A direction's start: what it brings to the barrier, and the rest. -/
theorem ready : iprop(Start p d c ∗ Toks p d c ∗ Buf d c ∗ Rows p d c) ⊢ (iprop(brings p d c ∗ Ready p d c) : sProp 𝕄) := by
  unfold Start Toks Buf Rows brings Ready Turn
  iintro ⟨⟨⟨P0, P1, P2, P3, P4, P5⟩, HC, HOu⟩, ⟨⟨T0, T1, T2, T3, T4, T5⟩, ⟨G0, G1, G2, G3, G4⟩, Hb⟩, ⟨B0, B1, BS⟩, R0, R1, R2, R3⟩
  unfold HopPos
  icases P0 with ⟨A0, V0, #S0, #M0, #Hr⟩
  icases P1 with ⟨A1, V1, #S1, #M1, -⟩
  icases P2 with ⟨A2, V2, #S2, #M2, -⟩
  icases P3 with ⟨A3, V3, #S3, #M3, -⟩
  icases P4 with ⟨A4, V4, #S4, #M4, -⟩
  icases P5 with ⟨A5, V5, #S5, #M5, -⟩
  isplitl [B1 Hb]
  · isplitl [B1]; · iexact B1
    isplitr
    · iapply (marks p d c)
      isplitr; · iexact M0
      isplitr; · iexact M1
      isplitr; · iexact M2
      isplitr; · iexact M3
      isplitr; · iexact M4
      iexact M5
    isplitl [Hb]; · iexact Hb
    iexact Hr
  isplitl [B0 BS]; · isplitl [B0] <;> iassumption
  isplitl [A0 V0 T0]
  · isplitr [T0]
    · isplitl [A0]; · iexact A0
      isplitl [V0]; · iexact V0
      isplitr; · iexact S0
      isplitr; · iexact M0
      iexact Hr
    iexact T0
  isplitl [A1 V1 T1 G0 A2 V2 T2 G1 A3 V3 T3 G2]
  · isplitl [A1 V1 T1 G0]
    · isplitl [G0]; · iexact G0
      isplitr [T1]
      · isplitl [A1]; · iexact A1
        isplitl [V1]; · iexact V1
        isplitr; · iexact S1
        isplitr; · iexact M1
        iexact Hr
      iexact T1
    isplitl [A2 V2 T2 G1]
    · isplitl [G1]; · iexact G1
      isplitr [T2]
      · isplitl [A2]; · iexact A2
        isplitl [V2]; · iexact V2
        isplitr; · iexact S2
        isplitr; · iexact M2
        iexact Hr
      iexact T2
    isplitl [G2]; · iexact G2
    isplitr [T3]
    · isplitl [A3]; · iexact A3
      isplitl [V3]; · iexact V3
      isplitr; · iexact S3
      isplitr; · iexact M3
      iexact Hr
    iexact T3
  isplitl [HC]; · iexact HC
  isplitl [HOu]; · iexact HOu
  isplitl [R0]; · iexact R0
  isplitl [A4 V4 T4 G3 A5 V5 T5 G4]
  · isplitl [A4 V4 T4 G3]
    · isplitl [G3]; · iexact G3
      isplitr [T4]
      · isplitl [A4]; · iexact A4
        isplitl [V4]; · iexact V4
        isplitr; · iexact S4
        isplitr; · iexact M4
        iexact Hr
      iexact T4
    isplitl [G4]; · iexact G4
    isplitr [T5]
    · isplitl [A5]; · iexact A5
      isplitl [V5]; · iexact V5
      isplitr; · iexact S5
      isplitr; · iexact M5
      iexact Hr
    iexact T5
  isplitl [R1]; · iexact R1
  isplitl [R2] <;> iassumption

end State

/-! ## A pass -/

/-- The passes: what comes after the payments of pass `p`. -/
def Later (p : ℕ) (l : List Code) : Prop := (p = 0 ∧ l = codes 1) ∨ (p = 1 ∧ l = [])

/-- There are two passes. -/
theorem Later.lt {p : ℕ} {l : List Code} (h : Later p l) : p < 2 := by rcases h with ⟨rfl, -⟩ | ⟨rfl, -⟩ <;> decide

/-- A wait in a pass lies under the payments still to come, if it does so in each of the two passes. -/
theorem levs {p : ℕ} {l : List Code} (h : Later p l) (n : ℕ) (i : ℕ → ℕ)
    (h0 : ∀ x ∈ (codes 0).drop n ++ codes 1, i 0 < x.lev ∧ x.lev < top) (h1 : ∀ x ∈ (codes 1).drop n, i 1 < x.lev ∧ x.lev < top) :
    ∀ x ∈ (codes p).drop n ++ l, i p < x.lev ∧ x.lev < top := by
  rcases h with ⟨rfl, rfl⟩ | ⟨rfl, rfl⟩
  · exact h0
  · rw [List.append_nil]; exact h1

variable (I : Inp F) (K : Dev nD × Cid → ℕ) (c : Dev nD)

section Pass
variable {α : Type} {k : PUnit → Prog (TpuEff nD τ sig (Elt F) Λ₀ .tc) α} {Q : α → sProp (MT nD τ sig ℕ (Elt F) ℕ UU ℕ)}

/-- The opening of a direction: its first partial product goes off. -/
theorem open_spec (p : ℕ) (d : Fin 2) (hp : p < 2) (l : List Code) :
    iprop(Ctx I K ∗ ops I c ∗ Met p d c ∗ scrap (down d c) (vC d 1) ∗ scrap c (vC d 0) ∗ HopPos p d c 0 ∗ HopTk p d c 0 ∗ CrPos d c (5 * p)
        ∗ ow c (.hop p d 0 :: l))
      ⊢ iprop((iprop(ops I c ∗ Fly I p d c 0 ∗ CrPos d c (5 * p) ∗ ow c l) -∗ Wp c (k ⟨⟩) Q)
          -∗ Wp c (first d ((nice c p).x 0 d) >>= fun _ => hop d 0 0 1 ((nice c p).hops 0 d) >>= k) Q) := by
  unfold CrPos
  iintro ⟨#HC, HI, #HM, Hd, Hs, HP, HT, ⟨Ha, #Hr⟩, HO⟩ Hk
  iapply (first_spec I c d (ch p d (go d 0 c))) $$ [HI Hs]
  · isplitl [HI] <;> iassumption
  iintro ⟨HI, Hs⟩
  iapply (hop_fly I K c p d 0 0 1 hp rfl rfl l _ rfl) $$ [Hs Hd HP HT HO]
  · isplitr; · iexact HC
    isplitl [Hs]; · iexact Hs
    isplitl [Hd]; · iexact Hd
    isplitl [HO]; · iexact HO
    isplitl [HP]; · iexact HP
    isplitl [HT]; · iexact HT
    isplitr; · iexact HM
    iexact Hr
  iintro ⟨Hf, HO⟩
  iapply Hk
  isplitl [HI]; · iexact HI
  isplitl [Hf]; · iexact Hf
  isplitl [Ha]
  · isplitl [Ha]; · iexact Ha
    iexact Hr
  iexact HO

/-- The reducing half of a pass. -/
theorem passReduce_spec (p : ℕ) (l : List Code) (hpl : Later p l) (sc : F .f32) (hsc : I.sc c = sc) :
    iprop(Ctx I K ∗ ops I c ∗ (atPos ER (cell c .bar) p ∅ 0 ∗ cred (tallyAt (cell c .bar) (40 * p + 1) 2))
        ∗ (brings p 0 c ∗ Ready p 0 c) ∗ (brings p 1 c ∗ Ready p 1 c) ∗ ow c (codes p ++ l))
      ⊢ iprop((iprop(ops I c ∗ atPos ER (cell c .bar) (p + 1) ∅ 0 ∗ (Met p 0 c ∗ Half I p 0 c) ∗ (Met p 1 c ∗ Half I p 1 c) ∗ ow c ((codes p).drop 16 ++ l))
            -∗ Wp c (k ⟨⟩) Q)
          -∗ Wp c (passReduce (nice c p) sc >>= k) Q) := by
  have hp := hpl.lt
  unfold passReduce
  simp only [bind_assoc]
  iintro ⟨#HC, HI, ⟨HB, HcB⟩, ⟨b0, R0⟩, ⟨b1, R1⟩, HO⟩ Hk
  iapply (meet_spec I K c p hp ((codes p).drop 2 ++ l) (levs hpl 2 (fun p => 40 * p + 1) (by decide) (by decide)) _ _ rfl rfl) $$ [b0 b1 HO HB HcB]
  · isplitr; · iexact HC
    isplitl [b0]; · iexact b0
    isplitl [b1]; · iexact b1
    isplitl [HO]; · iexact HO
    isplitl [HB] <;> iassumption
  iintro ⟨HO, HB, #Hr, ⟨d0, #m0⟩, ⟨d1, #m1⟩⟩
  unfold Ready
  icases R0 with ⟨⟨s0, S0⟩, ⟨P0, T0⟩, ⟨U00, U10, U20⟩, C0, O0, W0, X0⟩
  icases R1 with ⟨⟨s1, S1⟩, ⟨P1, T1⟩, ⟨U01, U11, U21⟩, C1, O1, W1, X1⟩
  ihave #M0 := (show iprop(recvR 0 p (down 0 c) ∗ reached ER (cell c .bar) (p + 1)) ⊢ (Met p 0 c : sProp 𝕄) from .rfl) $$ []
  · isplitr; · iexact m0
    iexact Hr
  ihave #M1 := (show iprop(recvR 1 p (down 1 c) ∗ reached ER (cell c .bar) (p + 1)) ⊢ (Met p 1 c : sProp 𝕄) from .rfl) $$ []
  · isplitr; · iexact m1
    iexact Hr
  iapply (open_spec I K c p 0 hp ((codes p).drop 3 ++ l)) $$ [HI d0 s0 P0 T0 C0 HO]
  · isplitr; · iexact HC
    isplitl [HI]; · iexact HI
    isplitr; · iexact M0
    isplitl [d0]; · iexact d0
    isplitl [s0]; · iexact s0
    isplitl [P0]; · iexact P0
    isplitl [T0]; · iexact T0
    isplitl [C0]; · iexact C0
    iexact HO
  iintro ⟨HI, F0, C0, HO⟩
  iapply (open_spec I K c p 1 hp ((codes p).drop 4 ++ l)) $$ [HI d1 s1 P1 T1 C1 HO]
  · isplitr; · iexact HC
    isplitl [HI]; · iexact HI
    isplitr; · iexact M1
    isplitl [d1]; · iexact d1
    isplitl [s1]; · iexact s1
    isplitl [P1]; · iexact P1
    isplitl [T1]; · iexact T1
    isplitl [C1]; · iexact C1
    iexact HO
  iintro ⟨HI, F1, C1, HO⟩
  iapply (share_spec I c 0 (ch p 0 (go 0 1 c))) $$ [HI S0]
  · isplitl [HI] <;> iassumption
  iintro ⟨HI, S0⟩
  iapply (share_spec I c 1 (ch p 1 (go 1 1 c))) $$ [HI S1]
  · isplitl [HI] <;> iassumption
  iintro ⟨HI, S1⟩
  iapply (reduce_spec I K c p 0 0 0 1 hp rfl rfl ((codes p).drop 6 ++ l) (levs hpl 4 (fun p => 40 * p + 2) (by decide) (by decide))
      (levs hpl 5 (fun p => 40 * p + 3) (by decide) (by decide)) (part I (ch p 0 (go 0 1 c)) c) rfl) $$ [F0 S0 C0 U00 HO]
  · isplitr; · iexact HC
    isplitr; · iexact M0
    isplitl [F0]; · iexact F0
    isplitl [S0]; · iexact S0
    isplitl [C0]; · iexact C0
    isplitl [U00]; · iexact U00
    iexact HO
  iintro ⟨F0, S0, C0, Z00, HO⟩
  iapply (reduce_spec I K c p 1 0 0 1 hp rfl rfl ((codes p).drop 8 ++ l) (levs hpl 6 (fun p => 40 * p + 2) (by decide) (by decide))
      (levs hpl 7 (fun p => 40 * p + 4) (by decide) (by decide)) (part I (ch p 1 (go 1 1 c)) c) rfl) $$ [F1 S1 C1 U01 HO]
  · isplitr; · iexact HC
    isplitr; · iexact M1
    isplitl [F1]; · iexact F1
    isplitl [S1]; · iexact S1
    isplitl [C1]; · iexact C1
    isplitl [U01]; · iexact U01
    iexact HO
  iintro ⟨F1, S1, C1, Z01, HO⟩
  iapply (share_spec I c 0 (ch p 0 (go 0 2 c))) $$ [HI S0]
  · isplitl [HI] <;> iassumption
  iintro ⟨HI, S0⟩
  iapply (share_spec I c 1 (ch p 1 (go 1 2 c))) $$ [HI S1]
  · isplitl [HI] <;> iassumption
  iintro ⟨HI, S1⟩
  iapply (reduce_spec I K c p 0 1 1 0 hp rfl rfl ((codes p).drop 10 ++ l) (levs hpl 8 (fun p => 40 * p + 6) (by decide) (by decide))
      (levs hpl 9 (fun p => 40 * p + 7) (by decide) (by decide)) (part I (ch p 0 (go 0 2 c)) c) rfl) $$ [F0 S0 C0 U10 HO]
  · isplitr; · iexact HC
    isplitr; · iexact M0
    isplitl [F0]; · iexact F0
    isplitl [S0]; · iexact S0
    isplitl [C0]; · iexact C0
    isplitl [U10]; · iexact U10
    iexact HO
  iintro ⟨F0, S0, C0, Z10, HO⟩
  iapply (reduce_spec I K c p 1 1 1 0 hp rfl rfl ((codes p).drop 12 ++ l) (levs hpl 10 (fun p => 40 * p + 6) (by decide) (by decide))
      (levs hpl 11 (fun p => 40 * p + 8) (by decide) (by decide)) (part I (ch p 1 (go 1 2 c)) c) rfl) $$ [F1 S1 C1 U11 HO]
  · isplitr; · iexact HC
    isplitr; · iexact M1
    isplitl [F1]; · iexact F1
    isplitl [S1]; · iexact S1
    isplitl [C1]; · iexact C1
    isplitl [U11]; · iexact U11
    iexact HO
  iintro ⟨F1, S1, C1, Z11, HO⟩
  iapply (share_spec I c 0 (ch p 0 (go 0 3 c))) $$ [HI S0]
  · isplitl [HI] <;> iassumption
  iintro ⟨HI, S0⟩
  iapply (share_spec I c 1 (ch p 1 (go 1 3 c))) $$ [HI S1]
  · isplitl [HI] <;> iassumption
  iintro ⟨HI, S1⟩
  iapply (reduceLast_spec I K c p 0 hp ((codes p).drop 14 ++ l) sc hsc (levs hpl 12 (fun p => 40 * p + 2 + 4 * 2) (by decide) (by decide))
      (levs hpl 13 (fun p => 40 * p + 3 + 4 * 2) (by decide) (by decide))) $$ [F0 S0 C0 U20 W0 O0 HO]
  · isplitr; · iexact HC
    isplitr; · iexact M0
    isplitl [F0]; · iexact F0
    isplitl [S0]; · iexact S0
    isplitl [C0]; · iexact C0
    isplitl [U20]; · iexact U20
    isplitl [W0]; · iexact W0
    isplitl [O0]; · iexact O0
    iexact HO
  iintro ⟨F0, C0, Z20, O0, HO⟩
  iapply (reduceLast_spec I K c p 1 hp ((codes p).drop 16 ++ l) sc hsc (levs hpl 14 (fun p => 40 * p + 2 + 4 * 2) (by decide) (by decide))
      (levs hpl 15 (fun p => 40 * p + 3 + 4 * 2 + 1) (by decide) (by decide))) $$ [F1 S1 C1 U21 W1 O1 HO]
  · isplitr; · iexact HC
    isplitr; · iexact M1
    isplitl [F1]; · iexact F1
    isplitl [S1]; · iexact S1
    isplitl [C1]; · iexact C1
    isplitl [U21]; · iexact U21
    isplitl [W1]; · iexact W1
    isplitl [O1]; · iexact O1
    iexact HO
  iintro ⟨F1, C1, Z21, O1, HO⟩
  iapply Hk
  unfold Half
  isplitl [HI]; · iexact HI
  isplitl [HB]; · iexact HB
  icases X0 with ⟨Y0, V0⟩
  icases X1 with ⟨Y1, V1⟩
  isplitl [F0 C0 O0 Y0 V0 Z00 Z10 Z20]
  · isplitr; · iexact M0
    isplitl [F0]; · iexact F0
    isplitl [C0]; · iexact C0
    isplitl [O0]; · iexact O0
    isplitl [Y0]; · iexact Y0
    isplitl [V0]; · iexact V0
    isplitl [Z00]; · iexact Z00
    isplitl [Z10]; · iexact Z10
    iexact Z20
  isplitr [HO]
  · isplitr; · iexact M1
    isplitl [F1]; · iexact F1
    isplitl [C1]; · iexact C1
    isplitl [O1]; · iexact O1
    isplitl [Y1]; · iexact Y1
    isplitl [V1]; · iexact V1
    isplitl [Z01]; · iexact Z01
    isplitl [Z11]; · iexact Z11
    iexact Z21
  iexact HO

end Pass

end Cert.KernelIdeal.Run
-- ==== Proof.Run.Gather.lean ====
module

public import proofs.«01_k».proof.Proof.Run.Pass

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

variable (I : Inp F) (K : Dev nD × Cid → ℕ) (c : Dev nD)

section Gather
variable {α : Type} {k : PUnit → Prog (TpuEff nD τ sig (Elt F) Λ₀ .tc) α} {Q : α → sProp (MT nD τ sig ℕ (Elt F) ℕ UU ℕ)}

/-- A received block on its way into the result while it is also on its way to the neighbour. -/
theorem deliver_fly (p : ℕ) (d s : Fin 2) (n n' : Fin 4) (h : Fin 6) (hp : p < 2) (hs : s = slot h) (hn : n'.val = n.val + 1) (l : List Code)
    (hl : ∀ x ∈ l, 0 < x.lev ∧ x.lev < top) (hB : fin I p d n' c = wid (sent I p d h c)) :
    iprop(Ctx I K ∗ OutFly p d c n ∗ Row p d c n' ∗ Fly I p d c h ∗ ow c l)
      ⊢ iprop((iprop(OutFly p d c n' ∗ Done I p d c n ∗ Fly I p d c h ∗ ow c l) -∗ Wp c (k ⟨⟩) Q)
          -∗ Wp c (deliver (nice c p) d s n n' >>= k) Q) := by
  subst hs
  unfold Fly
  iintro ⟨#HC, HF, HR, ⟨Hs, Hf⟩, HO⟩ Hk
  iapply (deliver_spec I K c p d (slot h) n n' hp hn l hl _ _ hB) $$ [HF HR Hs HO]
  · isplitr; · iexact HC
    isplitl [HF]; · iexact HF
    isplitl [HR]; · iexact HR
    isplitl [Hs]; · iexact Hs
    iexact HO
  iintro ⟨HF, HD, Hs, HO⟩
  iapply Hk
  isplitl [HF]; · iexact HF
  isplitl [HD]; · iexact HD
  isplitl [Hs Hf]; · isplitl [Hs] <;> iassumption
  iexact HO

/-- What a direction gives back. -/
def Back (p : ℕ) (d : Fin 2) : sProp 𝕄 := iprop(Start (p + 1) d c ∗ Buf d c ∗ Filled I p d c)

/-- The gathering half of a pass. -/
theorem passGather_spec (p : ℕ) (l : List Code) (hpl : Later p l) :
    iprop(Ctx I K ∗ (Met p 0 c ∗ Half I p 0 c) ∗ (Met p 1 c ∗ Half I p 1 c) ∗ ow c ((codes p).drop 16 ++ l))
      ⊢ iprop((iprop(Back I c p 0 ∗ Back I c p 1 ∗ ow c l) -∗ Wp c (k ⟨⟩) Q) -∗ Wp c (passGather (nice c p) >>= k) Q) := by
  have hp := hpl.lt
  have e5 : 5 * (p + 1) = 5 * p + 5 := by omega
  have e4 : 4 * (p + 1) = 4 * p + 4 := by omega
  unfold passGather Half
  simp only [bind_assoc]
  iintro ⟨#HC, ⟨#M0, F0, C0, O0, ⟨U30, U40⟩, ⟨W10, W20, W30⟩, Z0⟩, ⟨#M1, F1, C1, O1, ⟨U31, U41⟩, ⟨W11, W21, W31⟩, Z1⟩, HO⟩ Hk
  iapply (relay_spec I K c p 0 3 1 0 hp rfl rfl ((codes p).drop 18 ++ l) (levs hpl 16 (fun p => 40 * p + 2 + 4 * 3) (by decide) (by decide))
      (levs hpl 17 (fun p => 40 * p + 3 + 4 * 3) (by decide) (by decide)) rfl) $$ [F0 C0 U30 HO]
  · isplitr; · iexact HC
    isplitr; · iexact M0
    isplitl [F0]; · iexact F0
    isplitl [C0]; · iexact C0
    isplitl [U30]; · iexact U30
    iexact HO
  iintro ⟨F0, C0, Z30, HO⟩
  iapply (relay_spec I K c p 1 3 1 0 hp rfl rfl ((codes p).drop 20 ++ l) (levs hpl 18 (fun p => 40 * p + 2 + 4 * 3) (by decide) (by decide))
      (levs hpl 19 (fun p => 40 * p + 3 + 4 * 3 + 1) (by decide) (by decide)) rfl) $$ [F1 C1 U31 HO]
  · isplitr; · iexact HC
    isplitr; · iexact M1
    isplitl [F1]; · iexact F1
    isplitl [C1]; · iexact C1
    isplitl [U31]; · iexact U31
    iexact HO
  iintro ⟨F1, C1, Z31, HO⟩
  iapply (deliver_fly I K c p 0 0 0 1 4 hp rfl rfl ((codes p).drop 20 ++ l) (levs hpl 20 (fun p => 0) (by decide) (by decide)) rfl) $$ [O0 W10 F0 HO]
  · isplitr; · iexact HC
    isplitl [O0]; · iexact O0
    isplitl [W10]; · iexact W10
    isplitl [F0]; · iexact F0
    iexact HO
  iintro ⟨O0, D00, F0, HO⟩
  iapply (deliver_fly I K c p 1 0 0 1 4 hp rfl rfl ((codes p).drop 20 ++ l) (levs hpl 20 (fun p => 0) (by decide) (by decide)) rfl) $$ [O1 W11 F1 HO]
  · isplitr; · iexact HC
    isplitl [O1]; · iexact O1
    isplitl [W11]; · iexact W11
    isplitl [F1]; · iexact F1
    iexact HO
  iintro ⟨O1, D01, F1, HO⟩
  iapply (relay_spec I K c p 0 4 0 1 hp rfl rfl ((codes p).drop 22 ++ l) (levs hpl 20 (fun p => 40 * p + 2 + 4 * 4) (by decide) (by decide))
      (levs hpl 21 (fun p => 40 * p + 3 + 4 * 4) (by decide) (by decide)) rfl) $$ [F0 C0 U40 HO]
  · isplitr; · iexact HC
    isplitr; · iexact M0
    isplitl [F0]; · iexact F0
    isplitl [C0]; · iexact C0
    isplitl [U40]; · iexact U40
    iexact HO
  iintro ⟨F0, C0, Z40, HO⟩
  iapply (relay_spec I K c p 1 4 0 1 hp rfl rfl ((codes p).drop 24 ++ l) (levs hpl 22 (fun p => 40 * p + 2 + 4 * 4) (by decide) (by decide))
      (levs hpl 23 (fun p => 40 * p + 3 + 4 * 4 + 1) (by decide) (by decide)) rfl) $$ [F1 C1 U41 HO]
  · isplitr; · iexact HC
    isplitr; · iexact M1
    isplitl [F1]; · iexact F1
    isplitl [C1]; · iexact C1
    isplitl [U41]; · iexact U41
    iexact HO
  iintro ⟨F1, C1, Z41, HO⟩
  iapply (deliver_fly I K c p 0 1 1 2 5 hp rfl rfl ((codes p).drop 24 ++ l) (levs hpl 24 (fun p => 0) (by decide) (by decide)) rfl) $$ [O0 W20 F0 HO]
  · isplitr; · iexact HC
    isplitl [O0]; · iexact O0
    isplitl [W20]; · iexact W20
    isplitl [F0]; · iexact F0
    iexact HO
  iintro ⟨O0, D10, F0, HO⟩
  iapply (deliver_fly I K c p 1 1 1 2 5 hp rfl rfl ((codes p).drop 24 ++ l) (levs hpl 24 (fun p => 0) (by decide) (by decide)) rfl) $$ [O1 W21 F1 HO]
  · isplitr; · iexact HC
    isplitl [O1]; · iexact O1
    isplitl [W21]; · iexact W21
    isplitl [F1]; · iexact F1
    iexact HO
  iintro ⟨O1, D11, F1, HO⟩
  iapply (await_fly I K c p 0 5 1 0 hp rfl rfl ((codes p).drop 24 ++ l) (levs hpl 24 (fun p => 40 * p + 2 + 4 * 5) (by decide) (by decide))) $$ [F0 HO]
  · isplitr; · iexact HC
    isplitl [F0]; · iexact F0
    iexact HO
  iintro ⟨s0, v0, HO, Z50, -⟩
  iapply (await_fly I K c p 1 5 1 0 hp rfl rfl ((codes p).drop 24 ++ l) (levs hpl 24 (fun p => 40 * p + 2 + 4 * 5) (by decide) (by decide))) $$ [F1 HO]
  · isplitr; · iexact HC
    isplitl [F1]; · iexact F1
    iexact HO
  iintro ⟨s1, v1, HO, Z51, -⟩
  iapply (deliver_spec I K c p 0 0 2 3 hp rfl ((codes p).drop 24 ++ l) (levs hpl 24 (fun p => 0) (by decide) (by decide)) fullShare
      (sent I p 0 5 (up 0 c)) rfl) $$ [O0 W30 v0 HO]
  · isplitr; · iexact HC
    isplitl [O0]; · iexact O0
    isplitl [W30]; · iexact W30
    isplitl [v0]; · iexact v0
    iexact HO
  iintro ⟨O0, D20, v0, HO⟩
  iapply (deliver_spec I K c p 1 0 2 3 hp rfl ((codes p).drop 24 ++ l) (levs hpl 24 (fun p => 0) (by decide) (by decide)) fullShare
      (sent I p 1 5 (up 1 c)) rfl) $$ [O1 W31 v1 HO]
  · isplitr; · iexact HC
    isplitl [O1]; · iexact O1
    isplitl [W31]; · iexact W31
    isplitl [v1]; · iexact v1
    iexact HO
  iintro ⟨O1, D21, v1, HO⟩
  iapply (landed I K c p 0 3 hp ((codes p).drop 24 ++ l) (levs hpl 24 (fun p => 0) (by decide) (by decide)) _ rfl) $$ [O0 HO]
  · isplitr; · iexact HC
    isplitl [O0]; · iexact O0
    iexact HO
  iintro ⟨O0, D30, S0, HO⟩
  iapply (landed I K c p 1 3 hp ((codes p).drop 24 ++ l) (levs hpl 24 (fun p => 0) (by decide) (by decide)) _ rfl) $$ [O1 HO]
  · isplitr; · iexact HC
    isplitl [O1]; · iexact O1
    iexact HO
  iintro ⟨O1, D31, S1, HO⟩
  iapply Hk
  icases Z0 with ⟨Z00, Z10, Z20⟩
  icases Z1 with ⟨Z01, Z11, Z21⟩
  ihave s0 := (has_scrap c (vC 0 1) _) $$ s0
  ihave v0 := (has_scrap c (vC 0 0) _) $$ v0
  ihave s1 := (has_scrap c (vC 1 1) _) $$ s1
  ihave v1 := (has_scrap c (vC 1 0) _) $$ v1
  unfold Back Start Buf Filled
  rw [e5, e4]
  isplitl [Z00 Z10 Z20 Z30 Z40 Z50 C0 O0 s0 v0 S0 D00 D10 D20 D30]
  · isplitl [Z00 Z10 Z20 Z30 Z40 Z50 C0 O0]
    · isplitl [Z00 Z10 Z20 Z30 Z40 Z50]
      · isplitl [Z00]; · iexact Z00
        isplitl [Z10]; · iexact Z10
        isplitl [Z20]; · iexact Z20
        isplitl [Z30]; · iexact Z30
        isplitl [Z40]; · iexact Z40
        iexact Z50
      isplitl [C0]; · iexact C0
      iexact O0
    isplitl [s0 v0 S0]
    · isplitl [v0]; · iexact v0
      isplitl [s0]; · iexact s0
      iexact S0
    isplitl [D00]; · iexact D00
    isplitl [D10]; · iexact D10
    isplitl [D20]; · iexact D20
    iexact D30
  isplitr [HO]
  · isplitl [Z01 Z11 Z21 Z31 Z41 Z51 C1 O1]
    · isplitl [Z01 Z11 Z21 Z31 Z41 Z51]
      · isplitl [Z01]; · iexact Z01
        isplitl [Z11]; · iexact Z11
        isplitl [Z21]; · iexact Z21
        isplitl [Z31]; · iexact Z31
        isplitl [Z41]; · iexact Z41
        iexact Z51
      isplitl [C1]; · iexact C1
      iexact O1
    isplitl [s1 v1 S1]
    · isplitl [v1]; · iexact v1
      isplitl [s1]; · iexact s1
      iexact S1
    isplitl [D01]; · iexact D01
    isplitl [D11]; · iexact D11
    isplitl [D21]; · iexact D21
    iexact D31
  iexact HO

/-- What a direction needs for a pass. -/
def Need (p : ℕ) (d : Fin 2) : sProp 𝕄 := iprop(Start p d c ∗ Toks p d c ∗ Buf d c ∗ Rows p d c)

/-- A pass. -/
theorem pass_spec (p : ℕ) (l : List Code) (hpl : Later p l) (sc : F .f32) (hsc : I.sc c = sc) :
    iprop(Ctx I K ∗ ops I c ∗ (atPos ER (cell c .bar) p ∅ 0 ∗ cred (tallyAt (cell c .bar) (40 * p + 1) 2))
        ∗ Need c p 0 ∗ Need c p 1 ∗ ow c (codes p ++ l))
      ⊢ iprop((iprop(ops I c ∗ atPos ER (cell c .bar) (p + 1) ∅ 0 ∗ Back I c p 0 ∗ Back I c p 1 ∗ ow c l) -∗ Wp c (k ⟨⟩) Q)
          -∗ Wp c (pass (nice c p) sc >>= k) Q) := by
  unfold pass Need
  simp only [bind_assoc]
  iintro ⟨#HC, HI, HB, N0, N1, HO⟩ Hk
  ihave N0 := (ready p 0 c) $$ N0
  ihave N1 := (ready p 1 c) $$ N1
  iapply (passReduce_spec I K c p l hpl sc hsc) $$ [HI HB N0 N1 HO]
  · isplitr; · iexact HC
    isplitl [HI]; · iexact HI
    isplitl [HB]; · iexact HB
    isplitl [N0]; · iexact N0
    isplitl [N1]; · iexact N1
    iexact HO
  iintro ⟨HI, HB, H0, H1, HO⟩
  iapply (passGather_spec I K c p l hpl) $$ [H0 H1 HO]
  · isplitr; · iexact HC
    isplitl [H0]; · iexact H0
    isplitl [H1]; · iexact H1
    iexact HO
  iintro ⟨H0, H1, HO⟩
  iapply Hk
  isplitl [HI]; · iexact HI
  isplitl [HB]; · iexact HB
  isplitl [H0]; · iexact H0
  isplitl [H1]; · iexact H1
  iexact HO

end Gather

end Cert.KernelIdeal.Run
-- ==== Proof.Run.Split.lean ====
module

public import proofs.«01_k».proof.Proof.Run.Gather

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

/-! ## A buffer and its pieces -/

/-- Contents given piece by piece are contents. -/
theorem glue {sh : Shape} {β : Type} [Nonempty β] {T : Type} (r : T → Rect sh) (hd : ∀ t t', t ≠ t' → Disjoint (r t).set (r t').set)
    (Y : (t : T) → (r t).shape.Idx → β) : ∃ X : sh.Idx → β, ∀ t j, X ((r t).emb j) = Y t j := by
  classical
  refine ⟨fun i => if h : ∃ p : Σ t, (r t).shape.Idx, (r p.1).emb p.2 = i then Y h.choose.1 h.choose.2 else Classical.arbitrary _, fun t j => ?_⟩
  have h : ∃ p : Σ t, (r t).shape.Idx, (r p.1).emb p.2 = (r t).emb j := ⟨⟨t, j⟩, rfl⟩
  show (if h : ∃ p : Σ t, (r t).shape.Idx, (r p.1).emb p.2 = (r t).emb j then Y h.choose.1 h.choose.2 else Classical.arbitrary _) = _
  rw [dif_pos h]
  have hs := h.choose_spec
  generalize h.choose = p at hs
  obtain ⟨t', j'⟩ := p
  by_cases e : t' = t
  · subst e
    have := (r t').emb.injective hs
    subst this; rfl
  · exfalso
    have h1 : (r t').emb j' ∈ (r t').set := by rw [← Rect.map_emb_univ]; exact Finset.mem_map_of_mem _ (Finset.mem_univ _)
    have h2 : (r t).emb j ∈ (r t).set := by rw [← Rect.map_emb_univ]; exact Finset.mem_map_of_mem _ (Finset.mem_univ _)
    have h1' : (r t).emb j ∈ (r t').set := (show (r t').emb j' = (r t).emb j from hs) ▸ h1
    exact Finset.disjoint_left.mp (hd t' t e) h1' h2

section Pieces
variable (c : Dev nD) {sp : Space} {sh : Shape} {e : EltTy} (m : Memref sig .tc sp sh e) (q : PosShare TreeShare)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- Pieces held are the buffer held, at contents that are theirs on each. -/
theorem join_pieces (Y : (t : T) → (r t).shape.Idx → Elt F e) :
    bigSep Finset.univ (fun t => has c (m.slice (r t) (hr t)) q (Y t))
      ⊢ (iprop(∃ X : sh.Idx → Elt F e, ⌜∀ t j, X ((r t).emb j) = Y t j⌝ ∗ has c m q X) : sProp 𝕄) := by
  obtain ⟨X, hX⟩ := glue r hd Y
  have hY : Y = fun t j => X ((r t).emb j) := funext fun t => funext fun j => (hX t j).symm
  iintro H
  iexists X
  isplitr; · ipureintro; exact hX
  rw [hY]
  iapply (owns_of_rects (c : Thread nD τ) m q r hr hd hcov X)
  iexact H

/-- A buffer falls into pieces. -/
theorem scrap_pieces : (scrap c m : sProp 𝕄) ⊢ bigSep Finset.univ (fun t => scrap c (m.slice (r t) (hr t))) := by
  unfold scrap
  iintro ⟨%X, H⟩
  ihave H := (show (has c m fullShare X : sProp 𝕄) ⊢ bigSep Finset.univ fun t => owns (c : Thread nD τ) (m.slice (r t) (hr t)) fullShare (fun j => X ((r t).emb j))
    from owns_rects (c : Thread nD τ) m fullShare r hr hd hcov X) $$ H
  iapply (show (bigSep Finset.univ fun t => owns (c : Thread nD τ) (m.slice (r t) (hr t)) fullShare (fun j => X ((r t).emb j)))
      ⊢ (bigSep Finset.univ fun t => iprop(∃ Y : (r t).shape.Idx → Elt F e, has c (m.slice (r t) (hr t)) fullShare Y) : sProp 𝕄) from
    bigSep_mono fun t _ => has_scrap c (m.slice (r t) (hr t)) _)
  iexact H

/-- And pieces are put together. -/
theorem pieces_scrap : bigSep Finset.univ (fun t => scrap c (m.slice (r t) (hr t))) ⊢ (scrap c m : sProp 𝕄) := by
  unfold scrap
  iintro H
  ihave H := (BI.bigSep_exists_pi Finset.univ (fun t (Y : (r t).shape.Idx → Elt F e) => (has c (m.slice (r t) (hr t)) fullShare Y : sProp 𝕄))) $$ H
  icases H with ⟨%Y, H⟩
  ihave H := (join_pieces c m fullShare r hr hd hcov Y) $$ H
  icases H with ⟨%X, %_, H⟩
  iexists X; iexact H

end Pieces

/-- The same elements under a shape of fewer axes. -/
theorem scrap_squeeze (c : Dev nD) {sp : Space} {sh sh' : Shape} {e : EltTy} (m : Memref sig .tc sp sh e) (h : sh.Squeezes sh') :
    (scrap c m : sProp 𝕄) ⊢ scrap c (m.squeeze sh' h) := by
  unfold scrap has owns
  iintro ⟨%X, %f, %hf, H⟩
  iexists ((m.squeeze sh' h).view.read (Elt F) f), f
  isplitr; · ipureintro; rfl
  rw [show (m.squeeze sh' h).view.set = m.view.set from View.set_reshape _ _]
  iexact H

/-- And back. -/
theorem squeeze_scrap (c : Dev nD) {sp : Space} {sh sh' : Shape} {e : EltTy} (m : Memref sig .tc sp sh e) (h : sh.Squeezes sh') :
    (scrap c (m.squeeze sh' h) : sProp 𝕄) ⊢ scrap c m := by
  unfold scrap has owns
  iintro ⟨%X, %f, %hf, H⟩
  iexists (m.view.read (Elt F) f), f
  isplitr; · ipureintro; rfl
  rw [← show (m.squeeze sh' h).view.set = m.view.set from View.set_reshape _ _]
  iexact H

/-! ## The slots -/

/-- Different communication slots have no element in common. -/
theorem disjC : ∀ t t' : Fin 2 × Fin 2, t ≠ t' → Disjoint (rC t.1 t.2).set (rC t'.1 t'.2).set := by
  rintro ⟨d, s⟩ ⟨d', s'⟩ hne
  refine Finset.disjoint_left.mpr fun i h h' => hne ?_
  rw [Rect.mem_set_unit] at h h'
  have h0 := h 0; have h0' := h' 0; have h1 := h 1; have h1' := h' 1
  simp only [Matrix.cons_val_zero, Matrix.cons_val_one] at h0 h0' h1 h1'
  show (d, s) = (d', s')
  have e0 : S1x1x256x8192.size 0 = 1 := rfl
  have e1 : S1x1x256x8192.size 1 = 1 := rfl
  have a : d = d' := Fin.ext (by omega)
  have b : s = s' := Fin.ext (by omega)
  rw [a, b]

/-- The communication slots make up their buffer. -/
theorem coverC : (Finset.univ : Finset (Fin 2 × Fin 2)).biUnion (fun t => (rC t.1 t.2).set) = Finset.univ := by
  ext i
  simp only [Finset.mem_biUnion, Finset.mem_univ, true_and, iff_true]
  refine ⟨(⟨(i 0).val, (i 0).isLt⟩, ⟨(i 1).val, (i 1).isLt⟩), Rect.mem_set_unit.mpr fun a => ?_⟩
  fin_cases a
  · exact ⟨le_refl _, Nat.lt_succ_self _⟩
  · exact ⟨le_refl _, Nat.lt_succ_self _⟩
  · exact ⟨Nat.zero_le _, by show (i 2).val < 0 + 256; have := (i 2).isLt; simpa using this⟩
  · exact ⟨Nat.zero_le _, by show (i 3).val < 0 + 8192; have := (i 3).isLt; simpa using this⟩

/-- The two staging slots have no element in common. -/
theorem disjS : ∀ t t' : Fin 2, t ≠ t' → Disjoint (rS t).set (rS t').set := by
  intro d d' hne
  refine Finset.disjoint_left.mpr fun i h h' => hne ?_
  rw [Rect.mem_set_unit] at h h'
  have h0 := h 0; have h0' := h' 0
  simp only [Matrix.cons_val_zero] at h0 h0'
  have e0 : S1x256x8192.size 0 = 1 := rfl
  exact Fin.ext (by omega)

/-- The staging slots make up their buffer. -/
theorem coverS : (Finset.univ : Finset (Fin 2)).biUnion (fun t => (rS t).set) = Finset.univ := by
  ext i
  simp only [Finset.mem_biUnion, Finset.mem_univ, true_and, iff_true]
  refine ⟨⟨(i 0).val, (i 0).isLt⟩, Rect.mem_set_unit.mpr fun a => ?_⟩
  fin_cases a
  · exact ⟨le_refl _, Nat.lt_succ_self _⟩
  · exact ⟨Nat.zero_le _, by show (i 1).val < 0 + 256; have := (i 1).isLt; simpa using this⟩
  · exact ⟨Nat.zero_le _, by show (i 2).val < 0 + 8192; have := (i 2).isLt; simpa using this⟩

/-- Two summands. -/
theorem sum_two (f : Fin 2 → sProp 𝕄) : bigSep Finset.univ f = iprop(f 0 ∗ f 1) :=
  bigSep_univ_eq_bigSepL [(0 : Fin 2), 1] (by decide) (by decide) f

/-- Four, in pairs. -/
theorem sum_pairs (f : Fin 2 × Fin 2 → sProp 𝕄) : bigSep Finset.univ f = iprop(f (0, 0) ∗ f (0, 1) ∗ f (1, 0) ∗ f (1, 1)) :=
  bigSep_univ_eq_bigSepL [((0 : Fin 2), (0 : Fin 2)), (0, 1), (1, 0), (1, 1)] (by decide) (by decide) f

/-- The scratch buffers as the directions' buffers. -/
theorem bufs_split (c : Dev nD) : iprop(scrap c bC ∗ scrap c bS) ⊢ (iprop(Buf 0 c ∗ Buf 1 c) : sProp 𝕄) := by
  unfold Buf
  iintro ⟨HC, HS⟩
  ihave HC := (scrap_pieces c bC (fun t : Fin 2 × Fin 2 => rC t.1 t.2) (fun _ _ => rfl) disjC coverC) $$ HC
  ihave HS := (scrap_pieces c bS rS (fun _ _ => rfl) disjS coverS) $$ HS
  ihave HC := (Entails.of_eq (sum_pairs _)) $$ HC
  ihave HS := (Entails.of_eq (sum_two _)) $$ HS
  icases HC with ⟨C00, C01, C10, C11⟩
  icases HS with ⟨S0, S1⟩
  ihave C00 := (scrap_squeeze c _ squeezes_S1x1x256x8192_S256x8192) $$ C00
  ihave C01 := (scrap_squeeze c _ squeezes_S1x1x256x8192_S256x8192) $$ C01
  ihave C10 := (scrap_squeeze c _ squeezes_S1x1x256x8192_S256x8192) $$ C10
  ihave C11 := (scrap_squeeze c _ squeezes_S1x1x256x8192_S256x8192) $$ C11
  ihave S0 := (scrap_squeeze c _ squeezes_S1x256x8192_S256x8192) $$ S0
  ihave S1 := (scrap_squeeze c _ squeezes_S1x256x8192_S256x8192) $$ S1
  isplitl [C00 C01 S0]
  · isplitl [C00]; · iexact C00
    isplitl [C01]; · iexact C01
    iexact S0
  isplitl [C10]; · iexact C10
  isplitl [C11]; · iexact C11
  iexact S1

/-- And back. -/
theorem bufs_join (c : Dev nD) : iprop(Buf 0 c ∗ Buf 1 c) ⊢ (iprop(scrap c bC ∗ scrap c bS) : sProp 𝕄) := by
  unfold Buf
  iintro ⟨⟨C00, C01, S0⟩, ⟨C10, C11, S1⟩⟩
  ihave C00 := (squeeze_scrap c _ squeezes_S1x1x256x8192_S256x8192) $$ C00
  ihave C01 := (squeeze_scrap c _ squeezes_S1x1x256x8192_S256x8192) $$ C01
  ihave C10 := (squeeze_scrap c _ squeezes_S1x1x256x8192_S256x8192) $$ C10
  ihave C11 := (squeeze_scrap c _ squeezes_S1x1x256x8192_S256x8192) $$ C11
  ihave S0 := (squeeze_scrap c _ squeezes_S1x256x8192_S256x8192) $$ S0
  ihave S1 := (squeeze_scrap c _ squeezes_S1x256x8192_S256x8192) $$ S1
  isplitl [C00 C01 C10 C11]
  · iapply (pieces_scrap c bC (fun t : Fin 2 × Fin 2 => rC t.1 t.2) (fun _ _ => rfl) disjC coverC)
    iapply (Entails.of_eq (sum_pairs _).symm)
    isplitl [C00]; · iexact C00
    isplitl [C01]; · iexact C01
    isplitl [C10]; · iexact C10
    iexact C11
  · iapply (pieces_scrap c bS rS (fun _ _ => rfl) disjS coverS)
    iapply (Entails.of_eq (sum_two _).symm)
    isplitl [S0]; · iexact S0
    iexact S1

/-! ## The rows of the result -/

/-- A row block's name: pass, direction, number. -/
abbrev RowIx : Type := Fin 2 × Fin 2 × Fin 4
/-- The row block of a name on device `c`. -/
abbrev rowOf (c : Dev nD) (t : RowIx) : ORow := finRow t.1 t.2.1 t.2.2 c

/-- The number of a row block. -/
def rowNum (c : Dev nD) (t : RowIx) : Fin 16 := ⟨ch t.1 t.2.1 (go t.2.1 (t.2.2 + 3) c) % 16, Nat.mod_lt _ (by decide)⟩
/-- On a device, different names have different row blocks. -/
theorem rowNum_inj : ∀ c : Dev nD, ∀ t t' : RowIx, rowNum c t = rowNum c t' → t = t' := by decide +kernel
/-- On a device, every row block has a name. -/
theorem rowNum_surj : ∀ c : Dev nD, ∀ n : Fin 16, ∃ t : RowIx, rowNum c t = n := by decide +kernel

/-- Which elements lie in a row block: those of its 256 rows. -/
theorem mem_row (c : Dev nD) (t : RowIx) (i : S4096x8192.Idx) :
    i ∈ (rowOf c t).rect.set ↔ 256 * (rowNum c t).val ≤ (i 0).val ∧ (i 0).val < 256 * (rowNum c t).val + 256 := by
  rw [Rect.mem_set_unit]
  constructor
  · intro h; exact h 0
  · intro h a
    fin_cases a
    · exact h
    · exact ⟨Nat.zero_le _, by show (i 1).val < 0 + 8192; have := (i 1).isLt; simpa using this⟩

/-- Different row blocks of the result have no element in common. -/
theorem disjO (c : Dev nD) : ∀ t t' : RowIx, t ≠ t' → Disjoint (rowOf c t).rect.set (rowOf c t').rect.set := fun t t' hne =>
  Finset.disjoint_left.mpr fun i h h' => hne (rowNum_inj c t t' (Fin.ext (by
    have h1 := (mem_row c t i).mp h; have h2 := (mem_row c t' i).mp h'; omega)))

/-- The row blocks make up the result. -/
theorem coverO (c : Dev nD) : (Finset.univ : Finset RowIx).biUnion (fun t => (rowOf c t).rect.set) = Finset.univ := by
  ext i
  simp only [Finset.mem_biUnion, Finset.mem_univ, true_and, iff_true]
  have hi : (i 0).val < 4096 := (i 0).isLt
  obtain ⟨t, ht⟩ := rowNum_surj c ⟨(i 0).val / 256, by omega⟩
  refine ⟨t, (mem_row c t i).mpr ?_⟩
  rw [ht]; dsimp only; omega

/-- The rows' tokens. -/
def OutTk (p : ℕ) (d : Fin 2) (c : Dev nD) : sProp 𝕄 :=
  iprop(dutyTok ER (cell c (.out d)) (4 * p + 0) 0 ∗ dutyTok ER (cell c (.out d)) (4 * p + 1) 0
    ∗ dutyTok ER (cell c (.out d)) (4 * p + 2) 0 ∗ dutyTok ER (cell c (.out d)) (4 * p + 3) 0)

/-- The names in order. -/
def rowIxs : List RowIx := [(0, 0, 0), (0, 0, 1), (0, 0, 2), (0, 0, 3), (0, 1, 0), (0, 1, 1), (0, 1, 2), (0, 1, 3),
  (1, 0, 0), (1, 0, 1), (1, 0, 2), (1, 0, 3), (1, 1, 0), (1, 1, 1), (1, 1, 2), (1, 1, 3)]

/-- Sixteen summands. -/
theorem sum_rows (f : RowIx → sProp 𝕄) : bigSep Finset.univ f
    = iprop(f (0, 0, 0) ∗ f (0, 0, 1) ∗ f (0, 0, 2) ∗ f (0, 0, 3) ∗ f (0, 1, 0) ∗ f (0, 1, 1) ∗ f (0, 1, 2) ∗ f (0, 1, 3)
      ∗ f (1, 0, 0) ∗ f (1, 0, 1) ∗ f (1, 0, 2) ∗ f (1, 0, 3) ∗ f (1, 1, 0) ∗ f (1, 1, 1) ∗ f (1, 1, 2) ∗ f (1, 1, 3)) :=
  bigSep_univ_eq_bigSepL rowIxs (by decide) (by decide) f

/-- The result as the rows the passes fill. -/
theorem rows_split (c : Dev nD) :
    iprop(scrap c bO ∗ (OutTk 0 0 c ∗ OutTk 0 1 c) ∗ (OutTk 1 0 c ∗ OutTk 1 1 c))
      ⊢ (iprop((Rows 0 0 c ∗ Rows 0 1 c) ∗ (Rows 1 0 c ∗ Rows 1 1 c)) : sProp 𝕄) := by
  unfold OutTk Rows Row
  iintro ⟨HO, ⟨⟨T0, T1, T2, T3⟩, ⟨U0, U1, U2, U3⟩⟩, ⟨⟨V0, V1, V2, V3⟩, ⟨W0, W1, W2, W3⟩⟩⟩
  ihave HO := (scrap_pieces c bO (fun t => (rowOf c t).rect) (fun _ _ => rfl) (disjO c) (coverO c)) $$ HO
  ihave HO := (Entails.of_eq (sum_rows _)) $$ HO
  icases HO with ⟨A0, A1, A2, A3, B0, B1, B2, B3, C0, C1, C2, C3, D0, D1, D2, D3⟩
  isplitl [A0 A1 A2 A3 B0 B1 B2 B3 T0 T1 T2 T3 U0 U1 U2 U3]
  · isplitl [A0 A1 A2 A3 T0 T1 T2 T3]
    · isplitl [A0 T0]; · isplitl [A0]; · iexact A0
                         iexact T0
      isplitl [A1 T1]; · isplitl [A1]; · iexact A1
                         iexact T1
      isplitl [A2 T2]; · isplitl [A2]; · iexact A2
                         iexact T2
      isplitl [A3]; · iexact A3
      iexact T3
    isplitl [B0 U0]; · isplitl [B0]; · iexact B0
                       iexact U0
    isplitl [B1 U1]; · isplitl [B1]; · iexact B1
                       iexact U1
    isplitl [B2 U2]; · isplitl [B2]; · iexact B2
                       iexact U2
    isplitl [B3]; · iexact B3
    iexact U3
  isplitl [C0 C1 C2 C3 V0 V1 V2 V3]
  · isplitl [C0 V0]; · isplitl [C0]; · iexact C0
                       iexact V0
    isplitl [C1 V1]; · isplitl [C1]; · iexact C1
                       iexact V1
    isplitl [C2 V2]; · isplitl [C2]; · iexact C2
                       iexact V2
    isplitl [C3]; · iexact C3
    iexact V3
  isplitl [D0 W0]; · isplitl [D0]; · iexact D0
                     iexact W0
  isplitl [D1 W1]; · isplitl [D1]; · iexact D1
                     iexact W1
  isplitl [D2 W2]; · isplitl [D2]; · iexact D2
                     iexact W2
  isplitl [D3]; · iexact D3
  iexact W3

/-- The rows filled are the result. -/
theorem rows_join (I : Inp F) (c : Dev nD) :
    iprop((Filled I 0 0 c ∗ Filled I 0 1 c) ∗ (Filled I 1 0 c ∗ Filled I 1 1 c))
      ⊢ (iprop(∃ X : S4096x8192.Idx → Elt F .f32, ⌜∀ (t : RowIx) (j : S256x8192.Idx), X ((rowOf c t).rect.emb j) = fin I t.1 t.2.1 t.2.2 c j⌝
          ∗ has c bO fullShare X) : sProp 𝕄) := by
  unfold Filled Done
  iintro ⟨⟨⟨A0, A1, A2, A3⟩, ⟨B0, B1, B2, B3⟩⟩, ⟨⟨C0, C1, C2, C3⟩, ⟨D0, D1, D2, D3⟩⟩⟩
  iapply (join_pieces c bO fullShare (fun t => (rowOf c t).rect) (fun _ _ => rfl) (disjO c) (coverO c) (fun t => fin I t.1 t.2.1 t.2.2 c))
  iapply (Entails.of_eq (sum_rows _).symm)
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [C0]; · iexact C0
  isplitl [C1]; · iexact C1
  isplitl [C2]; · iexact C2
  isplitl [C3]; · iexact C3
  isplitl [D0]; · iexact D0
  isplitl [D1]; · iexact D1
  isplitl [D2]; · iexact D2
  iexact D3

end Cert.KernelIdeal.Run
-- ==== Proof.Run.Deal.lean ====
module

public import proofs.«01_k».proof.Proof.Run.Split

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

/-! ## The printed devices and rows -/

/-- Two collections of names agree if each name does. -/
theorem args_ext {A B : Args} (h1 : ∀ d, A.bar d = B.bar d) (h2 : ∀ h d, A.hops h d = B.hops h d) (h3 : ∀ g d, A.backs g d = B.backs g d)
    (h4 : ∀ k d, (A.x k d).off = (B.x k d).off) (h5 : ∀ k d, (A.o k d).off = (B.o k d).off) : A = B := by
  obtain ⟨a1, a2, a3, a4, a5⟩ := A
  obtain ⟨b1, b2, b3, b4, b5⟩ := B
  have e1 : a1 = b1 := funext h1
  have e2 : a2 = b2 := funext fun h => funext (h2 h)
  have e3 : a3 = b3 := funext fun h => funext (h3 h)
  have e4 : a4 = b4 := funext fun k => funext fun d => by
    have := h4 k d; dsimp only at this
    cases hx : a4 k d; cases hy : b4 k d
    rw [hx, hy] at this; dsimp only at this; subst this; rfl
  have e5 : a5 = b5 := funext fun k => funext fun d => by
    have := h5 k d; dsimp only at this
    cases hx : a5 k d; cases hy : b5 k d
    rw [hx, hy] at this; dsimp only at this; subst this; rfl
  subst e1; subst e2; subst e3; subst e4; subst e5; rfl

/-- The first pass names what the schedule does. -/
theorem args0_eq (c : Dev nD) : args0 c = nice c 0 :=
  args_ext (by revert c; decide +kernel) (by revert c; decide +kernel) (by revert c; decide +kernel) (by revert c; decide +kernel) (by revert c; decide +kernel)
/-- So does the second. -/
theorem args1_eq (c : Dev nD) : args1 c = nice c 1 :=
  args_ext (by revert c; decide +kernel) (by revert c; decide +kernel) (by revert c; decide +kernel) (by revert c; decide +kernel) (by revert c; decide +kernel)

/-! ## Cells and tokens -/

/-- A cell's name is its own. -/
theorem cell_inj {c c' : Dev nD} {k k' : Cid} (h : cell c k = cell c' k') : c = c' ∧ k = k' := by
  have h1 : c = c' := congrArg (fun g : GSem nD τ sig => g.1.1) h
  have h2 : k.sem = k'.sem := congrArg Prod.snd h
  exact ⟨h1, Option.some.inj (by rw [← cid_sem k, h2, cid_sem])⟩

/-- The cells of all devices. -/
abbrev cellAt (ck : Dev nD × Cid) : GSem nD τ sig := cell ck.1 ck.2
/-- Different devices or names have different cells. -/
theorem cellAt_injective : Function.Injective cellAt := fun a b h => Prod.ext (cell_inj h).1 (cell_inj h).2
/-- They, as a set. -/
def allCells : Finset (GSem nD τ sig) := Finset.univ.map ⟨cellAt, cellAt_injective⟩

/-- The duties a device pays in a pass and a direction. -/
inductive Tk | bar | hop (h : Fin 6) | grant (h : Fin 5) | send (h : Fin 6) | out (k : Fin 4)
  deriving DecidableEq

/-- All of them. -/
def tks : List Tk := [.bar, .hop 0, .hop 1, .hop 2, .hop 3, .hop 4, .hop 5, .grant 0, .grant 1, .grant 2, .grant 3, .grant 4,
  .send 0, .send 1, .send 2, .send 3, .send 4, .send 5, .out 0, .out 1, .out 2, .out 3]
/-- The list names every duty. -/
theorem mem_tks (k : Tk) : k ∈ tks := by
  cases k with
  | bar => decide
  | hop h => revert h; decide
  | grant h => revert h; decide
  | send h => revert h; decide
  | out k => revert k; decide
/-- There are finitely many duties. -/
instance : Fintype Tk := ⟨⟨tks, by decide⟩, mem_tks⟩

/-- The duty itself: cell, round, number. -/
def tokAt (c : Dev nD) (p d : Fin 2) : Tk → GSem nD τ sig × ℕ × Fin 2
  | .bar => (cell (up d c) .bar, p, d)
  | .hop h => (cell (down d c) (.recv d h), p, 0)
  | .grant g => (cell (up d c) (.cred d), 5 * p + g, 0)
  | .send h => (cell c (.send d h), p, 0)
  | .out k => (cell c (.out d), 4 * p + k, 0)

/-- A duty of some device. -/
abbrev tokOf (x : Dev nD × Fin 2 × Fin 2 × Tk) : GSem nD τ sig × ℕ × Fin 2 := tokAt x.1 x.2.1 x.2.2.1 x.2.2.2

/-- Two devices with the same source are the same. -/
theorem up_inj {d : Fin 2} {c c' : Dev nD} (h : up d c = up d c') : c = c' := by rw [← down_up d c, h, down_up]
/-- Two devices with the same target are the same. -/
theorem down_inj {d : Fin 2} {c c' : Dev nD} (h : down d c = down d c') : c = c' := by rw [← up_down d c, h, up_down]

/-- No duty is named twice. -/
theorem tokOf_injective : Function.Injective tokOf := by
  rintro ⟨c, p, d, k⟩ ⟨c', p', d', k'⟩ h
  have hc := fun {a a' : Dev nD} {b b' : Cid} (e : cell a b = cell a' b') => cell_inj e
  have h1 : (tokAt c p d k).1 = (tokAt c' p' d' k').1 := congrArg Prod.fst h
  have h2 : (tokAt c p d k).2.1 = (tokAt c' p' d' k').2.1 := congrArg (fun x : GSem nD τ sig × ℕ × Fin 2 => x.2.1) h
  have h3 : (tokAt c p d k).2.2 = (tokAt c' p' d' k').2.2 := congrArg (fun x : GSem nD τ sig × ℕ × Fin 2 => x.2.2) h
  cases k <;> cases k' <;> simp only [tokAt] at h1 h2 h3 <;> obtain ⟨ha, hb⟩ := hc h1 <;> first | (cases hb; done) | skip
  · subst h3; have := up_inj ha; subst this
    have : p = p' := Fin.ext h2
    subst this; rfl
  · cases hb; have := down_inj ha; subst this
    have : p = p' := Fin.ext h2
    subst this; rfl
  · rename_i g g'
    cases hb; have := up_inj ha; subst this
    have : p = p' := Fin.ext (by omega)
    subst this
    have : g = g' := Fin.ext (by omega)
    subst this; rfl
  · cases hb; subst ha
    have : p = p' := Fin.ext h2
    subst this; rfl
  · rename_i g g'
    cases hb; subst ha
    have : p = p' := Fin.ext (by omega)
    subst this
    have : g = g' := Fin.ext (by omega)
    subst this; rfl
/-- All duties. -/
def allToks : Finset (GSem nD τ sig × ℕ × Fin 2) := Finset.univ.map ⟨tokOf, tokOf_injective⟩

/-- The tokens of a device in a pass and a direction. -/
def PayTk (p d : Fin 2) (c : Dev nD) : sProp 𝕄 :=
  bigSep Finset.univ fun k : Tk => dutyTok ER (tokAt c p d k).1 (tokAt c p d k).2.1 (tokAt c p d k).2.2
/-- All its tokens. -/
def DevTk (c : Dev nD) : sProp 𝕄 := iprop((PayTk 0 0 c ∗ PayTk 0 1 c) ∗ (PayTk 1 0 c ∗ PayTk 1 1 c))

/-- The credits of a pass in a direction. -/
def Crs (p : ℕ) (d : Fin 2) (c : Dev nD) : sProp 𝕄 :=
  iprop((cred (tallyAt (cell c (.recv d 0)) (40 * p + 2 + 4 * (0 : Fin 6).val) N) ∗ cred (tallyAt (cell c (.recv d 1)) (40 * p + 2 + 4 * (1 : Fin 6).val) N)
      ∗ cred (tallyAt (cell c (.recv d 2)) (40 * p + 2 + 4 * (2 : Fin 6).val) N) ∗ cred (tallyAt (cell c (.recv d 3)) (40 * p + 2 + 4 * (3 : Fin 6).val) N)
      ∗ cred (tallyAt (cell c (.recv d 4)) (40 * p + 2 + 4 * (4 : Fin 6).val) N) ∗ cred (tallyAt (cell c (.recv d 5)) (40 * p + 2 + 4 * (5 : Fin 6).val) N))
    ∗ (cred (tallyAt (cell c (.cred d)) (40 * p + 3 + 4 * (0 : Fin 5).val + d.val) 1) ∗ cred (tallyAt (cell c (.cred d)) (40 * p + 3 + 4 * (1 : Fin 5).val + d.val) 1)
      ∗ cred (tallyAt (cell c (.cred d)) (40 * p + 3 + 4 * (2 : Fin 5).val + d.val) 1) ∗ cred (tallyAt (cell c (.cred d)) (40 * p + 3 + 4 * (3 : Fin 5).val + d.val) 1)
      ∗ cred (tallyAt (cell c (.cred d)) (40 * p + 3 + 4 * (4 : Fin 5).val + d.val) 1)))

/-- A separating product over the duties of a pass and a direction, written out. -/
theorem sum_tks (f : Tk → sProp 𝕄) : bigSep Finset.univ f
    = iprop(f .bar ∗ f (.hop 0) ∗ f (.hop 1) ∗ f (.hop 2) ∗ f (.hop 3) ∗ f (.hop 4) ∗ f (.hop 5) ∗ f (.grant 0) ∗ f (.grant 1) ∗ f (.grant 2)
      ∗ f (.grant 3) ∗ f (.grant 4) ∗ f (.send 0) ∗ f (.send 1) ∗ f (.send 2) ∗ f (.send 3) ∗ f (.send 4) ∗ f (.send 5)
      ∗ f (.out 0) ∗ f (.out 1) ∗ f (.out 2) ∗ f (.out 3)) :=
  bigSep_univ_eq_bigSepL tks (by decide) (by decide) f

/-- A direction's tokens and credits, as its steps take them. -/
theorem toks_of (p d : Fin 2) (c : Dev nD) : iprop(PayTk p d c ∗ Crs p d c) ⊢ (iprop(Toks p d c ∗ OutTk p d c) : sProp 𝕄) := by
  unfold PayTk Crs Toks OutTk HopTk GrTk
  iintro ⟨HP, ⟨R0, R1, R2, R3, R4, R5⟩, ⟨G0, G1, G2, G3, G4⟩⟩
  ihave HP := (Entails.of_eq (sum_tks _)) $$ HP
  icases HP with ⟨TB, H0, H1, H2, H3, H4, H5, K0, K1, K2, K3, K4, S0, S1, S2, S3, S4, S5, O0, O1, O2, O3⟩
  isplitr [O0 O1 O2 O3]
  · isplitl [S0 S1 S2 S3 S4 S5 H0 H1 H2 H3 H4 H5 R0 R1 R2 R3 R4 R5]
    · isplitl [S0 H0 R0]; · isplitl [S0]; · iexact S0
                            isplitl [H0]; · iexact H0
                            iexact R0
      isplitl [S1 H1 R1]; · isplitl [S1]; · iexact S1
                            isplitl [H1]; · iexact H1
                            iexact R1
      isplitl [S2 H2 R2]; · isplitl [S2]; · iexact S2
                            isplitl [H2]; · iexact H2
                            iexact R2
      isplitl [S3 H3 R3]; · isplitl [S3]; · iexact S3
                            isplitl [H3]; · iexact H3
                            iexact R3
      isplitl [S4 H4 R4]; · isplitl [S4]; · iexact S4
                            isplitl [H4]; · iexact H4
                            iexact R4
      isplitl [S5]; · iexact S5
      isplitl [H5]; · iexact H5
      iexact R5
    isplitr [TB]
    · isplitl [K0 G0]; · isplitl [K0]; · iexact K0
                         iexact G0
      isplitl [K1 G1]; · isplitl [K1]; · iexact K1
                         iexact G1
      isplitl [K2 G2]; · isplitl [K2]; · iexact K2
                         iexact G2
      isplitl [K3 G3]; · isplitl [K3]; · iexact K3
                         iexact G3
      isplitl [K4]; · iexact K4
      iexact G4
    iexact TB
  isplitl [O0]; · iexact O0
  isplitl [O1]; · iexact O1
  isplitl [O2]; · iexact O2
  iexact O3

/-! ## The credits at launch -/

/-- A payment as the one it comes to sees it. -/
def Code.got (c : Dev nD) (x : Code) : Pay nD τ sig := (cell c x.cid, x.lev, amtOf x.cid)

/-- What comes in everywhere is what goes out everywhere. -/
theorem due_sum (l : List Code) : (∑ d : Dev nD, due d l) = ∑ d : Dev nD, (tallyL (l.map (Code.got d)) : CellTallies nD τ sig ℕ) := by
  induction l with
  | nil => rfl
  | cons x l ih =>
    have hx : (∑ d : Dev nD, (tallyAt (cell (x.dest d) x.cid) x.lev (amtOf x.cid) : CellTallies nD τ sig ℕ))
        = ∑ d : Dev nD, tallyAt (cell d x.cid) x.lev (amtOf x.cid) := by
      cases x with
      | bar p d => exact Equiv.sum_comp (ring d) fun c => (tallyAt (cell c .bar) (Code.bar p d).lev (amtOf .bar) : CellTallies nD τ sig ℕ)
      | hop p d h => exact Equiv.sum_comp (ring d).symm fun c => (tallyAt (cell c (.recv d h)) (Code.hop p d h).lev (amtOf (.recv d h)) : CellTallies nD τ sig ℕ)
      | grant p d h => exact Equiv.sum_comp (ring d) fun c => (tallyAt (cell c (.cred d)) (Code.grant p d h).lev (amtOf (.cred d)) : CellTallies nD τ sig ℕ)
    simp only [due_cons, List.map_cons, tallyL, Finset.sum_add_distrib]
    rw [ih, hx, add_comm]; rfl

/-- A device's launch credit. -/
theorem launch_eq (l : List Code) (c : Dev nD) :
    (Pipeline.launchCred (fun d => due d l) c : sProp 𝕄) = bigSepL (l.map (Code.got c)) fun x => cred x.tally := by
  rw [← TalkSites.cred_tallyL]
  refine Pipeline.launchCred_of_sum (fun d => due d l) (fun d => tallyL (l.map (Code.got d))) (due_sum l) (fun d g hg => ?_) c
  obtain ⟨i, hi⟩ := DFunLike.ne_iff.mp hg
  obtain ⟨x, hx, rfl, -⟩ := TalkSites.tallyL_pos (Nat.pos_of_ne_zero hi)
  obtain ⟨y, -, rfl⟩ := List.mem_map.mp hx
  rfl

/-- The credits of a pass, one by one. -/
theorem creds_list (p : ℕ) (c : Dev nD) : (bigSepL ((codes p).map (Code.got c)) fun x => (cred x.tally : sProp 𝕄))
    = iprop(cred (Code.got c (.bar p 0)).tally ∗ cred (Code.got c (.bar p 1)).tally ∗ cred (Code.got c (.hop p 0 0)).tally ∗ cred (Code.got c (.hop p 1 0)).tally
      ∗ cred (Code.got c (.grant p 0 0)).tally ∗ cred (Code.got c (.hop p 0 1)).tally ∗ cred (Code.got c (.grant p 1 0)).tally ∗ cred (Code.got c (.hop p 1 1)).tally
      ∗ cred (Code.got c (.grant p 0 1)).tally ∗ cred (Code.got c (.hop p 0 2)).tally ∗ cred (Code.got c (.grant p 1 1)).tally ∗ cred (Code.got c (.hop p 1 2)).tally
      ∗ cred (Code.got c (.grant p 0 2)).tally ∗ cred (Code.got c (.hop p 0 3)).tally ∗ cred (Code.got c (.grant p 1 2)).tally ∗ cred (Code.got c (.hop p 1 3)).tally
      ∗ cred (Code.got c (.grant p 0 3)).tally ∗ cred (Code.got c (.hop p 0 4)).tally ∗ cred (Code.got c (.grant p 1 3)).tally ∗ cred (Code.got c (.hop p 1 4)).tally
      ∗ cred (Code.got c (.grant p 0 4)).tally ∗ cred (Code.got c (.hop p 0 5)).tally ∗ cred (Code.got c (.grant p 1 4)).tally ∗ cred (Code.got c (.hop p 1 5)).tally) := rfl

/-- A pass's credits, by direction. -/
theorem creds_pass (p : ℕ) (c : Dev nD) : (bigSepL ((codes p).map (Code.got c)) fun x => (cred x.tally : sProp 𝕄))
    ⊢ (iprop(cred (tallyAt (cell c .bar) (40 * p + 1) 2) ∗ Crs p 0 c ∗ Crs p 1 c) : sProp 𝕄) := by
  rw [creds_list]
  unfold Crs
  iintro ⟨B0, B1, R00, R10, G00, R01, G10, R11, G01, R02, G11, R12, G02, R03, G12, R13, G03, R04, G13, R14, G04, R05, G14, R15⟩
  isplitl [B0 B1]
  · iapply (show iprop(cred (tallyAt (cell c .bar) (40 * p + 1) 1) ∗ cred (tallyAt (cell c .bar) (40 * p + 1) 1))
      ⊢ (cred (tallyAt (cell c .bar) (40 * p + 1) 2) : sProp 𝕄) from ((cred_add _ _).2).trans (Entails.of_eq (by rw [tallyAt_add])))
    isplitl [B0]; · iexact B0
    iexact B1
  isplitl [R00 R01 R02 R03 R04 R05 G00 G01 G02 G03 G04]
  · isplitl [R00 R01 R02 R03 R04 R05]
    · isplitl [R00]; · iexact R00
      isplitl [R01]; · iexact R01
      isplitl [R02]; · iexact R02
      isplitl [R03]; · iexact R03
      isplitl [R04]; · iexact R04
      iexact R05
    isplitl [G00]; · iexact G00
    isplitl [G01]; · iexact G01
    isplitl [G02]; · iexact G02
    isplitl [G03]; · iexact G03
    iexact G04
  isplitl [R10 R11 R12 R13 R14 R15]
  · isplitl [R10]; · iexact R10
    isplitl [R11]; · iexact R11
    isplitl [R12]; · iexact R12
    isplitl [R13]; · iexact R13
    isplitl [R14]; · iexact R14
    iexact R15
  isplitl [G10]; · iexact G10
  isplitl [G11]; · iexact G11
  isplitl [G12]; · iexact G12
  isplitl [G13]; · iexact G13
  iexact G14

/-! ## Positions -/

/-- Every cell has begun. -/
def begun : sProp 𝕄 := bigSep Finset.univ fun ck : Dev nD × Cid => reached ER (cellAt ck) 0
/-- That every cell has begun stays known. -/
instance begun_persistent : BI.Persistent (begun (F := F)) := by unfold begun; infer_instance
/-- One of them. -/
theorem reached_at (c : Dev nD) (k : Cid) : begun ⊢ (reached ER (cell c k) 0 : sProp 𝕄) := by
  unfold begun; exact bigSep_elim (Finset.mem_univ (c, k))

/-- A hop's position at the beginning. -/
theorem hop_start (d : Fin 2) (c : Dev nD) (h : Fin 6) :
    iprop(begun ∗ atPos ER (cell c (.send d h)) 0 ∅ 0 ∗ atPos ER (cell c (.recv d h)) 0 ∅ 0) ⊢ (HopPos 0 d c h : sProp 𝕄) := by
  unfold HopPos
  iintro ⟨#HR, HS, HV⟩
  isplitl [HS]; · iexact HS
  isplitl [HV]; · iexact HV
  isplitr; · iapply (reached_at c (.send d h)); iexact HR
  isplitr; · iapply (reached_at c (.recv d h)); iexact HR
  iapply (reached_at (up d c) .bar); iexact HR

/-- A separating product over the names of semaphores, written out. -/
theorem sum_cids (f : Cid → sProp 𝕄) : bigSep Finset.univ f
    = iprop(f .bar ∗ f (.cred 0) ∗ f (.cred 1) ∗ f (.send 0 0) ∗ f (.send 0 1) ∗ f (.send 0 2)
      ∗ f (.send 0 3) ∗ f (.send 0 4) ∗ f (.send 0 5) ∗ f (.send 1 0) ∗ f (.send 1 1) ∗ f (.send 1 2)
      ∗ f (.send 1 3) ∗ f (.send 1 4) ∗ f (.send 1 5) ∗ f (.recv 0 0) ∗ f (.recv 0 1) ∗ f (.recv 0 2)
      ∗ f (.recv 0 3) ∗ f (.recv 0 4) ∗ f (.recv 0 5) ∗ f (.recv 1 0) ∗ f (.recv 1 1) ∗ f (.recv 1 2)
      ∗ f (.recv 1 3) ∗ f (.recv 1 4) ∗ f (.recv 1 5) ∗ f (.out 0) ∗ f (.out 1)) :=
  bigSep_univ_eq_bigSepL cids (by decide) (by decide) f

/-- A device's positions at the beginning. -/
def Begin (c : Dev nD) : sProp 𝕄 := iprop(atPos ER (cell c .bar) 0 ∅ 0 ∗ Start 0 0 c ∗ Start 0 1 c)

/-- They are its cells'. -/
theorem begin_of (c : Dev nD) : iprop(begun ∗ bigSep Finset.univ fun k : Cid => atPos ER (cell c k) 0 ∅ 0) ⊢ (Begin c : sProp 𝕄) := by
  unfold Begin Start CrPos OutPos
  iintro ⟨#HR, H⟩
  ihave H := (Entails.of_eq (sum_cids _)) $$ H
  icases H with ⟨AB, AC0, AC1, AS00, AS01, AS02, AS03, AS04, AS05, AS10, AS11, AS12, AS13, AS14, AS15, AV00, AV01, AV02, AV03, AV04, AV05, AV10, AV11, AV12, AV13, AV14, AV15, AO0, AO1⟩
  isplitl [AB]; · iexact AB
  isplitl [AC0 AO0 AS00 AV00 AS01 AV01 AS02 AV02 AS03 AV03 AS04 AV04 AS05 AV05]
  · isplitl [AS00 AV00 AS01 AV01 AS02 AV02 AS03 AV03 AS04 AV04 AS05 AV05]
    · isplitl [AS00 AV00]
      · iapply (hop_start 0 c 0)
        isplitr
        · iexact HR
        isplitl [AS00]
        · iexact AS00
        iexact AV00
      isplitl [AS01 AV01]
      · iapply (hop_start 0 c 1)
        isplitr
        · iexact HR
        isplitl [AS01]
        · iexact AS01
        iexact AV01
      isplitl [AS02 AV02]
      · iapply (hop_start 0 c 2)
        isplitr
        · iexact HR
        isplitl [AS02]
        · iexact AS02
        iexact AV02
      isplitl [AS03 AV03]
      · iapply (hop_start 0 c 3)
        isplitr
        · iexact HR
        isplitl [AS03]
        · iexact AS03
        iexact AV03
      isplitl [AS04 AV04]
      · iapply (hop_start 0 c 4)
        isplitr
        · iexact HR
        isplitl [AS04]
        · iexact AS04
        iexact AV04
      iapply (hop_start 0 c 5)
      isplitr
      · iexact HR
      isplitl [AS05]
      · iexact AS05
      iexact AV05
    isplitl [AC0]
    · isplitl [AC0]
      · iexact AC0
      iapply (reached_at c (.cred 0)); iexact HR
    isplitl [AO0]
    · iexact AO0
    iapply (reached_at c (.out 0)); iexact HR
  isplitl [AS10 AV10 AS11 AV11 AS12 AV12 AS13 AV13 AS14 AV14 AS15 AV15]
  · isplitl [AS10 AV10]
    · iapply (hop_start 1 c 0)
      isplitr
      · iexact HR
      isplitl [AS10]
      · iexact AS10
      iexact AV10
    isplitl [AS11 AV11]
    · iapply (hop_start 1 c 1)
      isplitr
      · iexact HR
      isplitl [AS11]
      · iexact AS11
      iexact AV11
    isplitl [AS12 AV12]
    · iapply (hop_start 1 c 2)
      isplitr
      · iexact HR
      isplitl [AS12]
      · iexact AS12
      iexact AV12
    isplitl [AS13 AV13]
    · iapply (hop_start 1 c 3)
      isplitr
      · iexact HR
      isplitl [AS13]
      · iexact AS13
      iexact AV13
    isplitl [AS14 AV14]
    · iapply (hop_start 1 c 4)
      isplitr
      · iexact HR
      isplitl [AS14]
      · iexact AS14
      iexact AV14
    iapply (hop_start 1 c 5)
    isplitr
    · iexact HR
    isplitl [AS15]
    · iexact AS15
    iexact AV15
  isplitl [AC1]
  · isplitl [AC1]
    · iexact AC1
    iapply (reached_at c (.cred 1)); iexact HR
  isplitl [AO1]
  · iexact AO1
  iapply (reached_at c (.out 1)); iexact HR

end Cert.KernelIdeal.Run
-- ==== Proof.Run.Fund.lean ====
module

public import proofs.«01_k».proof.Proof.Run.Deal

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

/-! ## The kernel's own semaphores -/

/-- The kernel's own: every cell but the barrier's. -/
def ownCids : List Cid := cids.tail
/-- Its semaphores. -/
abbrev osem (i : Fin 28) : SemLoc sig := (ownCids.get i).sem

/-- The list of the kernel's own semaphores is right: all are its own, none comes twice, none is missing. -/
theorem ownSemFacts : Pipeline.OwnSemFacts cfg0.spec osem := by decide +kernel

/-- They, at zero. -/
theorem ownSems0_eq (c : Dev nD) : (Pipeline.ownSems0 (Ix := ℕ) (Name := ℕ) (U := UU) (Lvl := ℕ) (Val := Elt F) (τ := τ) osem c : sProp 𝕄)
    = iprop(semVal (cell c (.cred 0)) 0 ∗ semVal (cell c (.cred 1)) 0 ∗ semVal (cell c (.send 0 0)) 0 ∗ semVal (cell c (.send 0 1)) 0 ∗ semVal (cell c (.send 0 2)) 0 ∗ semVal (cell c (.send 0 3)) 0
      ∗ semVal (cell c (.send 0 4)) 0 ∗ semVal (cell c (.send 0 5)) 0 ∗ semVal (cell c (.send 1 0)) 0 ∗ semVal (cell c (.send 1 1)) 0 ∗ semVal (cell c (.send 1 2)) 0 ∗ semVal (cell c (.send 1 3)) 0
      ∗ semVal (cell c (.send 1 4)) 0 ∗ semVal (cell c (.send 1 5)) 0 ∗ semVal (cell c (.recv 0 0)) 0 ∗ semVal (cell c (.recv 0 1)) 0 ∗ semVal (cell c (.recv 0 2)) 0 ∗ semVal (cell c (.recv 0 3)) 0
      ∗ semVal (cell c (.recv 0 4)) 0 ∗ semVal (cell c (.recv 0 5)) 0 ∗ semVal (cell c (.recv 1 0)) 0 ∗ semVal (cell c (.recv 1 1)) 0 ∗ semVal (cell c (.recv 1 2)) 0 ∗ semVal (cell c (.recv 1 3)) 0
      ∗ semVal (cell c (.recv 1 4)) 0 ∗ semVal (cell c (.recv 1 5)) 0 ∗ semVal (cell c (.out 0)) 0 ∗ semVal (cell c (.out 1)) 0) := by
  rw [Pipeline.ownSems0_eq_of_list c osem (List.finRange 28) (by decide) (by decide)]; rfl
/-- The barrier's is the one semaphore that outlives the kernel. -/
theorem unscopedSems0_eq (c : Dev nD) : (unscopedSems0 c : sProp 𝕄) = semVal (cell c .bar) 0 := by
  unfold unscopedSems0; rw [bigSep_eq_bigSepL_of_eq [SemLoc.reg sBar] (by decide) (by decide)]; rfl

/-- All of a device's cells, at zero. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Cid => semVal (cell c k) 0 : sProp 𝕄) := by
  rw [ownSems0_eq, unscopedSems0_eq, sum_cids]
  iintro ⟨⟨H0, H1, H2, H3, H4, H5, H6, H7, H8, H9, H10, H11, H12, H13, H14, H15, H16, H17, H18, H19, H20, H21, H22, H23, H24, H25, H26, H27⟩, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- And back. -/
theorem sems0_back (c : Dev nD) :
    (bigSep Finset.univ fun k : Cid => semVal (cell c k) 0 : sProp 𝕄)
      ⊢ iprop(unscopedSems0 c ∗ Pipeline.ownSems0 (Ix := ℕ) (Name := ℕ) (U := UU) (Lvl := ℕ) (Val := Elt F) (τ := τ) osem c) := by
  rw [ownSems0_eq, unscopedSems0_eq, sum_cids]

/-! ## The ghost state dealt out -/

variable (I : Inp F)

/-- The ghost state at the beginning: the pipeline's and the rounds'. -/
def u₀ : UU := (initOf (Pipeline.cells cfgs cellOf_inj) (Pipeline.launchToks cfgs cellOf_inj), initOf allCells allToks)

/-- What a device is dealt first. -/
def G (c : Dev nD) : sProp 𝕄 :=
  iprop((bigSep Finset.univ fun k : Cid => roundState ER (Rd I) (cell c k) 0)
    ∗ ((bigSep Finset.univ fun k : Cid => atPos ER (cell c k) 0 ∅ 0) ∗ (bigSep Finset.univ fun k : Cid => reached ER (cell c k) 0)) ∗ DevTk c)

/-- What it has once the invariants stand. -/
def G' (c : Dev nD) : sProp 𝕄 := iprop(∃ K : Dev nD × Cid → ℕ, invs I K ∗ Begin c ∗ DevTk c)

/-- A device's tokens from the sum over the duties. -/
theorem devTk_of (c : Dev nD) :
    (bigSep Finset.univ fun x : Fin 2 × Fin 2 × Tk => dutyTok ER (tokOf (c, x)).1 (tokOf (c, x)).2.1 (tokOf (c, x)).2.2 : sProp 𝕄) = DevTk c := by
  rw [bigSep_univ_prod, sum_two, bigSep_univ_prod, bigSep_univ_prod, sum_two, sum_two]; rfl

/-- The rounds' ghost state, device by device. -/
theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Cid => Φ (cell c k) := by
    unfold allCells; rw [bigSep_map, bigSep_univ_prod]; rfl
  have hT : bigSep allToks (fun x => (dutyTok ER x.1 x.2.1 x.2.2 : sProp 𝕄)) = bigSep Finset.univ fun c : Dev nD => DevTk c := by
    unfold allToks; rw [bigSep_map, bigSep_univ_prod]
    exact bigSep_congr fun c _ => devTk_of c
  iintro HX
  imod (Rounds.fund ER (Rd I) allCells allToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- A device's invariants are set up over its semaphores. -/
theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k : Cid => iprop(∃ κ : ℕ, cellInv ER (Rd I) κ (cell c k)))
          ∗ ((bigSep Finset.univ fun k : Cid => atPos ER (cell c k) 0 ∅ 0) ∗ (bigSep Finset.univ fun k : Cid => reached ER (cell c k) 0)) ∗ DevTk c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Cid => semVal (cell c k) 0) ∗ bigSep Finset.univ fun k : Cid => roundState ER (Rd I) (cell c k) 0)
      ⊢ (|={Set.univ}=> bigSep Finset.univ fun k : Cid => iprop(∃ κ : ℕ, cellInv ER (Rd I) κ (cell c k)) : sProp 𝕄) from by
        rw [← bigSep_sep']
        exact (bigSep_mono fun k _ => (Rounds.body_intro ER (Rd I) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Something known to all goes to every summand. -/
theorem share_out {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's share. -/
theorem share_of (K : Dev nD × Cid → ℕ) (c : Dev nD) :
    iprop((invs I K ∗ begun) ∗ ((bigSep Finset.univ fun k : Cid => atPos ER (cell c k) 0 ∅ 0) ∗ DevTk c)) ⊢ (G' I c : sProp 𝕄) := by
  unfold G'
  iintro ⟨⟨#HI, #HR⟩, Hat, HT⟩
  iexists K
  isplitr; · iexact HI
  isplitl [Hat]
  · iapply (begin_of c)
    isplitr; · iexact HR
    iexact Hat
  iexact HT

/-- The invariants of all devices, known to all. -/
theorem regroup :
    (bigSep Finset.univ fun c : Dev nD => iprop((bigSep Finset.univ fun k : Cid => iprop(∃ κ : ℕ, cellInv ER (Rd I) κ (cell c k)))
          ∗ ((bigSep Finset.univ fun k : Cid => atPos ER (cell c k) 0 ∅ 0) ∗ (bigSep Finset.univ fun k : Cid => reached ER (cell c k) 0)) ∗ DevTk c) : sProp 𝕄)
      ⊢ bigSep Finset.univ (G' I) := by
  rw [bigSep_sep', bigSep_sep', bigSep_sep', ← bigSep_univ_prod (fun ck : Dev nD × Cid => iprop(∃ κ : ℕ, cellInv ER (Rd I) κ (cell ck.1 ck.2))),
    ← bigSep_univ_prod (fun ck : Dev nD × Cid => (reached ER (cell ck.1 ck.2) 0 : sProp 𝕄))]
  iintro ⟨HI, ⟨Hat, #HR⟩, Htok⟩
  ihave HK := (BI.bigSep_exists_pi Finset.univ (fun (ck : Dev nD × Cid) (κ : ℕ) => (cellInv ER (Rd I) κ (cell ck.1 ck.2) : sProp 𝕄))) $$ HI
  icases HK with ⟨%K, #HI⟩
  iapply (share_out (R := iprop(invs I K ∗ begun)) fun c _ => share_of I K c)
  isplitr
  · isplitr; · unfold invs; iexact HI
    unfold begun; iexact HR
  · iapply (Entails.of_eq (bigSep_sep' Finset.univ (fun c : Dev nD => (bigSep Finset.univ fun k : Cid => atPos ER (cell c k) 0 ∅ 0 : sProp 𝕄)) DevTk).symm)
    isplitl [Hat]; · iexact Hat
    iexact Htok

/-- The step that sets up everything. -/
theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Cert.KernelIdeal.Run
-- ==== Proof.Run.Body.lean ====
module

public import proofs.«01_k».proof.Proof.Run.Fund
public import proofs.«01_k».proof.Proof.Gen.KernelIdeal.Frame

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)
open Cert.KernelIdeal.Gen

variable {F : FTy → Type} [FloatOps F]

local notation "𝕄" => MT nD τ sig ℕ (Elt F) ℕ UU ℕ

/-! ## The end of the cells -/

/-- After two passes every cell is past its last round. -/
theorem end_of (c : Dev nD) : iprop(atPos ER (cell c .bar) 2 ∅ 0 ∗ Start 2 0 c ∗ Start 2 1 c)
    ⊢ (bigSep Finset.univ fun k : Cid => atPos ER (cell c k) (rounds k) ∅ 0 : sProp 𝕄) := by
  unfold Start HopPos CrPos OutPos
  iintro ⟨AB, ⟨⟨⟨S00, V00, -, -, -⟩, ⟨S01, V01, -, -, -⟩, ⟨S02, V02, -, -, -⟩, ⟨S03, V03, -, -, -⟩, ⟨S04, V04, -, -, -⟩, ⟨S05, V05, -, -, -⟩⟩, ⟨C0, -⟩, ⟨O0, -⟩⟩, ⟨⟨⟨S10, V10, -, -, -⟩, ⟨S11, V11, -, -, -⟩, ⟨S12, V12, -, -, -⟩, ⟨S13, V13, -, -, -⟩, ⟨S14, V14, -, -, -⟩, ⟨S15, V15, -, -, -⟩⟩, ⟨C1, -⟩, ⟨O1, -⟩⟩⟩
  iapply (Entails.of_eq (sum_cids _).symm)
  isplitl [AB]; · iexact AB
  isplitl [C0]; · iexact C0
  isplitl [C1]; · iexact C1
  isplitl [S00]; · iexact S00
  isplitl [S01]; · iexact S01
  isplitl [S02]; · iexact S02
  isplitl [S03]; · iexact S03
  isplitl [S04]; · iexact S04
  isplitl [S05]; · iexact S05
  isplitl [S10]; · iexact S10
  isplitl [S11]; · iexact S11
  isplitl [S12]; · iexact S12
  isplitl [S13]; · iexact S13
  isplitl [S14]; · iexact S14
  isplitl [S15]; · iexact S15
  isplitl [V00]; · iexact V00
  isplitl [V01]; · iexact V01
  isplitl [V02]; · iexact V02
  isplitl [V03]; · iexact V03
  isplitl [V04]; · iexact V04
  isplitl [V05]; · iexact V05
  isplitl [V10]; · iexact V10
  isplitl [V11]; · iexact V11
  isplitl [V12]; · iexact V12
  isplitl [V13]; · iexact V13
  isplitl [V14]; · iexact V14
  isplitl [V15]; · iexact V15
  isplitl [O0]; · iexact O0
  iexact O1

/-- Then they are closed: all counters at zero. -/
theorem close_all (I : Inp F) (K : Dev nD × Cid → ℕ) (c : Dev nD) :
    iprop(Ctx I K ∗ bigSep Finset.univ fun k : Cid => atPos ER (cell c k) (rounds k) ∅ 0)
      ⊢ (|={Set.univ}=> bigSep Finset.univ fun k : Cid => semVal (cell c k) 0 : sProp 𝕄) := by
  have h : ∀ k ∈ (Finset.univ : Finset Cid), iprop(Ctx I K ∗ atPos ER (cell c k) (rounds k) ∅ 0) ⊢ (|={Set.univ}=> semVal (cell c k) 0 : sProp 𝕄) := fun k _ => by
    iintro ⟨#HC, Hat⟩
    iapply (Rounds.cell_close ER (Rd I) (Set.mem_univ (K (c, k))) (fun h => h) (R := rounds k) (duties_later I c k))
    isplitr; · iapply (ctx_inv I K c k); iexact HC
    iexact Hat
  exact (share_out (R := Ctx I K) h).trans (bigSep_fupd _ _)

/-! ## The two passes -/

/-- The result filled. -/
def Whole (I : Inp F) (c : Dev nD) : sProp 𝕄 :=
  iprop(∃ X : S4096x8192.Idx → Elt F .f32, ⌜∀ (t : RowIx) (j : S256x8192.Idx), X ((rowOf c t).rect.emb j) = fin I t.1 t.2.1 t.2.2 c j⌝
    ∗ has c bO fullShare X)

/-- What a device's run begins with. -/
def Fresh (c : Dev nD) : sProp 𝕄 :=
  iprop((Begin c ∗ DevTk c) ∗ ((cred (tallyAt (cell c .bar) (40 * 0 + 1) 2) ∗ Crs 0 0 c ∗ Crs 0 1 c)
      ∗ (cred (tallyAt (cell c .bar) (40 * 1 + 1) 2) ∗ Crs 1 0 c ∗ Crs 1 1 c)) ∗ scrap c bO ∗ (scrap c bC ∗ scrap c bS))
/-- What it ends with. -/
def Over (I : Inp F) (c : Dev nD) : sProp 𝕄 :=
  iprop((bigSep Finset.univ fun k : Cid => semVal (cell c k) 0) ∗ Whole I c ∗ (scrap c bC ∗ scrap c bS))

/-- The two passes, one after the other. -/
theorem run_spec (I : Inp F) (K : Dev nD × Cid → ℕ) (c : Dev nD) (sc : F .f32) (hsc : I.sc c = sc) (Q : PUnit → sProp (MT nD τ sig ℕ (Elt F) ℕ UU ℕ)) :
    iprop(Ctx I K ∗ ops I c ∗ Fresh c ∗ ow c (codes 0 ++ codes 1))
      ⊢ iprop((iprop(ops I c ∗ Over I c ∗ ow c []) -∗ Q ⟨⟩)
        -∗ Wp c (pass (args0 c) sc >>= fun _ => pass (args1 c) sc) Q) := by
  unfold Fresh Begin DevTk
  iintro ⟨#HC, HI, ⟨⟨⟨HB, B0, B1⟩, ⟨P00, P01⟩, ⟨P10, P11⟩⟩, ⟨⟨K0, C00, C01⟩, ⟨K1, C10, C11⟩⟩, HO, HS⟩, How⟩ Hk
  ihave T00 := (toks_of 0 0 c) $$ [P00 C00]
  · isplitl [P00]; · iexact P00
    iexact C00
  ihave T01 := (toks_of 0 1 c) $$ [P01 C01]
  · isplitl [P01]; · iexact P01
    iexact C01
  ihave T10 := (toks_of 1 0 c) $$ [P10 C10]
  · isplitl [P10]; · iexact P10
    iexact C10
  ihave T11 := (toks_of 1 1 c) $$ [P11 C11]
  · isplitl [P11]; · iexact P11
    iexact C11
  icases T00 with ⟨T00, O00⟩
  icases T01 with ⟨T01, O01⟩
  icases T10 with ⟨T10, O10⟩
  icases T11 with ⟨T11, O11⟩
  ihave HR := (rows_split c) $$ [HO O00 O01 O10 O11]
  · isplitl [HO]; · iexact HO
    isplitl [O00 O01]
    · isplitl [O00]; · iexact O00
      iexact O01
    isplitl [O10]; · iexact O10
    iexact O11
  icases HR with ⟨⟨R00, R01⟩, ⟨R10, R11⟩⟩
  ihave HS := (bufs_split c) $$ HS
  icases HS with ⟨S0, S1⟩
  rw [args0_eq, args1_eq]
  iapply (pass_spec I K c 0 (codes 1) (Or.inl ⟨rfl, rfl⟩) sc hsc) $$ [HI HB K0 B0 B1 T00 T01 S0 S1 R00 R01 How]
  · isplitr; · iexact HC
    isplitl [HI]; · iexact HI
    isplitl [HB K0]
    · isplitl [HB]; · iexact HB
      iexact K0
    isplitl [B0 T00 S0 R00]
    · unfold Need
      isplitl [B0]; · iexact B0
      isplitl [T00]; · iexact T00
      isplitl [S0]; · iexact S0
      iexact R00
    isplitl [B1 T01 S1 R01]
    · unfold Need
      isplitl [B1]; · iexact B1
      isplitl [T01]; · iexact T01
      isplitl [S1]; · iexact S1
      iexact R01
    iexact How
  unfold Back
  iintro ⟨HI, HB, ⟨B0, S0, F00⟩, ⟨B1, S1, F01⟩, How⟩
  rw [← bind_pure (pass (nice c 1) sc)]
  iapply (pass_spec I K c 1 [] (Or.inr ⟨rfl, rfl⟩) sc hsc) $$ [HI HB K1 B0 B1 T10 T11 S0 S1 R10 R11 How]
  · isplitr; · iexact HC
    isplitl [HI]; · iexact HI
    isplitl [HB K1]
    · isplitl [HB]; · iexact HB
      iexact K1
    isplitl [B0 T10 S0 R10]
    · unfold Need
      isplitl [B0]; · iexact B0
      isplitl [T10]; · iexact T10
      isplitl [S0]; · iexact S0
      iexact R10
    isplitl [B1 T11 S1 R11]
    · unfold Need
      isplitl [B1]; · iexact B1
      isplitl [T11]; · iexact T11
      isplitl [S1]; · iexact S1
      iexact R11
    rw [List.append_nil]; iexact How
  unfold Back
  iintro ⟨HI, HB, ⟨B0, S0, F10⟩, ⟨B1, S1, F11⟩, How⟩
  ihave HE := (end_of c) $$ [HB B0 B1]
  · isplitl [HB]; · iexact HB
    isplitl [B0]; · iexact B0
    iexact B1
  rw [Prog.pure_eq_ret]
  unfold Wp
  rw [wp_ret]
  imod (close_all I K c) $$ [HE] with HZ
  · isplitr; · iexact HC
    iexact HE
  imodintro
  iapply Hk
  isplitl [HI]; · iexact HI
  isplitr [How]
  · unfold Over Whole
    isplitl [HZ]; · iexact HZ
    isplitr [S0 S1]
    · iapply (rows_join I c)
      isplitl [F00 F01]
      · isplitl [F00]; · iexact F00
        iexact F01
      isplitl [F10]; · iexact F10
      iexact F11
    iapply (bufs_join c)
    isplitl [S0]; · iexact S0
    iexact S1
  iexact How

/-! ## The point of the pipeline -/

section Point

variable (m : (ℓ : Loc nD τ sig) → Idealize.ShloMosaic.Buf (Elt F) ℓ) (ρ : Dev nD → PrngReg)

/-- The launch state. -/
def s₀ : MemSt nD τ sig (Elt F) := ⟨m, fun _ => 0, ρ⟩

/-- The element of a one-element buffer. -/
def word {X : Type} (f : S1.Idx → X) : X := f (Shape.Idx.first (numel1_S1.symm ▸ Nat.one_pos))

/-- What the devices' operands hold. -/
def inp : Inp F where
  x c := iblk m c 0 t0_0
  w c := iblk m c 1 t0_0
  sc c := Scalar.mulf (word (iblk m c 2 t0_0)) (word (iblk m c 3 t0_0))

/-- What a device's point begins with. -/
def Φ₀ (c : Dev nD) : sProp 𝕄 := iprop((∃ K, Ctx (inp m) K) ∗ Fresh c)

/-- The data of the one point on device `c`: the arrays as launched, the blocks it reads, what it holds and owes before and after. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
  Φ t := match t with
    | ⟨0, _⟩ => Φ₀ m c
    | ⟨_ + 1, _⟩ => Over (inp m) c
  q _ := fullShare
  owed t := match t with
    | ⟨0, _⟩ => due c (codes 0 ++ codes 1)
    | ⟨_ + 1, _⟩ => 0

/-- Holding a whole buffer through its memref is holding the buffer. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Idealize.ShloMosaic.Buf (Elt F) (((c : Dev nD) : Thread nD τ).loc b), ⌜f = X⌝ ∗ (((c : Thread nD τ).loc b) ↦{fullShare} f)) := by
  unfold owns; simp only [Memref.view_whole, View.read_whole, View.set_whole]

/-- A staging buffer held. -/
abbrev stg (c : Dev nD) (b : Ref sig .tc) (X : b.ty.Contents (Elt F)) : sProp 𝕄 :=
  iprop(∃ f : Idealize.ShloMosaic.Buf (Elt F) (((c : Dev nD) : Thread nD τ).loc b), ⌜f = X⌝ ∗ (((c : Thread nD τ).loc b) ↦{fullShare} f))

/-- A separating product over the four staged operands, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- Before the body. -/
def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- After it. -/
def bodyPost (c : Dev nD) : sProp 𝕄 :=
  iprop(Over (inp m) c ∗ (dats m ρ 0 c).owesAt 0 t0_0.succ
    ∗ stg c cc0_stg0_0 (iblk m c 0 t0_0) ∗ stg c cc0_stg1_0 (iblk m c 1 t0_0)
    ∗ stg c cc0_stg2_0 (iblk m c 2 t0_0) ∗ stg c cc0_stg3_0 (iblk m c 3 t0_0))

/-- A staging buffer as an operand. -/
theorem stg_has (c : Dev nD) (b : Ref sig .tc) (X : b.ty.Contents (Elt F)) : (stg c b X : sProp 𝕄) = has c (Memref.whole b) fullShare X :=
  (owns_whole_eq c b X).symm

/-- A one-element buffer has one index. -/
theorem one_idx (i j : S1.Idx) : i = j := funext fun a => by
  have h1 := (i a).isLt; have h2 := (j a).isLt
  have h : S1.size a = 1 := by fin_cases a; rfl
  exact Fin.ext (by omega)

/-- The word loaded from the first staged scale is its one word. -/
theorem read_stg2 (f : (cc0_stg2_0 : Ref sig .tc).ty.Contents (Elt F)) (i) :
    ((Memref.whole cc0_stg2_0).access (Rect.unit (s := S1) ![0] S1.size inb_S1_S1_0)).read (Elt F) f i = word f := by
  show f _ = f _
  exact congrArg f (one_idx _ _)
/-- The word loaded from the second staged scale is its one word. -/
theorem read_stg3 (f : (cc0_stg3_0 : Ref sig .tc).ty.Contents (Elt F)) (i) :
    ((Memref.whole cc0_stg3_0).access (Rect.unit (s := S1) ![0] S1.size inb_S1_S1_0)).read (Elt F) f i = word f := by
  show f _ = f _
  exact congrArg f (one_idx _ _)

/-- The body from before to after. -/
theorem sound_body (c : Dev nD) : bodyPre m ρ c ⊢ Wp c body (fun _ => bodyPost m ρ c) := by
  unfold bodyPre Φ₀
  iintro ⟨⟨⟨%K, #HC⟩, HF⟩, Ho, ⟨%d0, %g0, %hg0, H0⟩, ⟨%d1, %g1, %hg1, H1⟩, ⟨%d2, %g2, %hg2, H2⟩, ⟨%d3, %g3, %hg3, H3⟩⟩
  have h0 : g0 = iblk m c 0 t0_0 := by rw [hg0]; unfold Dat.before; rw [if_pos (fetch0_0 t0_0)]; rfl
  have h1 : g1 = iblk m c 1 t0_0 := by rw [hg1]; unfold Dat.before; rw [if_pos (fetch0_1 t0_0)]; rfl
  have h2 : g2 = iblk m c 2 t0_0 := by rw [hg2]; unfold Dat.before; rw [if_pos (fetch0_2 t0_0)]; rfl
  have h3 : g3 = iblk m c 3 t0_0 := by rw [hg3]; unfold Dat.before; rw [if_pos (fetch0_3 t0_0)]; rfl
  subst h0 h1 h2 h3
  unfold Dat.owesAt Pipeline.owesWithin
  icases Ho with ⟨%W, %hW, HO⟩
  unfold body
  unfold Wp smemLoad smemLoadElt
  simp only [Prog.lift, Prog.bind_op, Prog.bind_ret, Prog.pure_eq_ret, wp_deviceId]
  iapply (wp_load_rect 𝒱₀ (c : Thread nD τ) none Set.univ (m := Memref.whole cc0_stg2_0) (r := Rect.unit (s := S1) ![0] S1.size inb_S1_S1_0) (S := Finset.univ) (q := fullShare) (f := iblk m c 2 t0_0) (Finset.subset_univ _)) $$ H2; iintro H2
  iapply (wp_load_rect 𝒱₀ (c : Thread nD τ) none Set.univ (m := Memref.whole cc0_stg3_0) (r := Rect.unit (s := S1) ![0] S1.size inb_S1_S1_0) (S := Finset.univ) (q := fullShare) (f := iblk m c 3 t0_0) (Finset.subset_univ _)) $$ H3; iintro H3
  rw [read_stg2, read_stg3, show (dats m ρ 0 c).owed t0_0.castSucc = due c (codes 0 ++ codes 1) from rfl]
  iapply (run_spec (inp m) K c (Scalar.mulf (word (iblk m c 2 t0_0)) (word (iblk m c 3 t0_0))) rfl (fun _ => bodyPost m ρ c)) $$ [HF H0 H1 HO]
  · isplitr; · iexact HC
    isplitl [H0 H1]
    · unfold ops bX bW
      isplitl [H0]
      · iapply (Entails.of_eq (stg_has c cc0_stg0_0 (iblk m c 0 t0_0)))
        iexists _; isplitr; · (ipureintro; rfl)
        iexact H0
      · iapply (Entails.of_eq (stg_has c cc0_stg1_0 (iblk m c 1 t0_0)))
        iexists _; isplitr; · (ipureintro; rfl)
        iexact H1
    isplitl [HF]; · iexact HF
    unfold ow; iexists W; iexact HO
  unfold ops bX bW ow
  iintro ⟨⟨H0, H1⟩, HV, ⟨%W', HO⟩⟩
  unfold bodyPost Dat.owesAt Pipeline.owesWithin
  rw [show (dats m ρ 0 c).owed t0_0.succ = due c [] from rfl]
  isplitl [HV]; · iexact HV
  isplitl [HO]
  · iexists W'
    isplitr; · ipureintro; exact fun _ _ => Or.inl trivial
    iexact HO
  isplitl [H0]
  · iapply (Entails.of_eq (stg_has c cc0_stg0_0 (iblk m c 0 t0_0)).symm); iexact H0
  isplitl [H1]
  · iapply (Entails.of_eq (stg_has c cc0_stg1_0 (iblk m c 1 t0_0)).symm); iexact H1
  isplitl [H2]
  · iexists _; isplitr; · (ipureintro; rfl)
    iexact H2
  iexists _; isplitr; · (ipureintro; rfl)
  iexact H3

set_option maxRecDepth 100000 in
/-- The pipeline's obligation on a device. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole main_v1) (Memref.isWhole_whole _) (Memref.whole cc0_scratch0) (Memref.isWhole_whole _)
    (Memref.whole cc0_scratch1) (Memref.isWhole_whole _) cc0_scratch2 cc0_scratch3 cc0_scratch4 cc0_scratch5) (fun _ => bodyPost m ρ c)
  rw [body_eq]
  exact sound_body m ρ c

end Point

end Cert.KernelIdeal.Run
-- ==== Proof.Run.Launch.lean ====
module

public import proofs.«01_k».proof.Proof.Run.Body
public import Idealize.ShloMosaic.Lib.Pipeline.BigSepL
public import Idealize.ShloMosaic.Lib.Pipeline.CollectiveSegs

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)
open Cert.KernelIdeal.Gen

variable {F : FTy → Type} [FloatOps F]

local notation "𝕄" => MT nD τ sig ℕ (Elt F) ℕ UU ℕ

variable (m : (ℓ : Loc nD τ sig) → Idealize.ShloMosaic.Buf (Elt F) ℓ) (ρ : Dev nD → PrngReg)

/-- Every operand is held whole. -/
theorem share_eq (c : Dev nD) (w : Fin cfg0.W) : (dats m ρ 0 c).share w = fullShare := by unfold Dat.share; split <;> rfl

/-- What a device brings to its point: all but the scratch buffers. -/
def Bring (c : Dev nD) : sProp 𝕄 :=
  iprop((∃ K, Ctx (inp m) K) ∗ (Begin c ∗ DevTk c) ∗ ((cred (tallyAt (cell c .bar) (40 * 0 + 1) 2) ∗ Crs 0 0 c ∗ Crs 0 1 c)
      ∗ (cred (tallyAt (cell c .bar) (40 * 1 + 1) 2) ∗ Crs 1 0 c ∗ Crs 1 1 c)) ∗ scrap c bO)

/-- A whole buffer held as a memref. -/
theorem whole_scrap (c : Dev nD) (b : Ref sig .tc) (f : Idealize.ShloMosaic.Buf (Elt F) ((c : Thread nD τ).loc b)) :
    (((c : Thread nD τ).loc b) ↦{fullShare} f : sProp 𝕄) ⊢ scrap c (Memref.whole b) := by
  unfold scrap
  iintro H
  iexists f
  iapply (Entails.of_eq (stg_has c b f))
  iexists f
  isplitr; · (ipureintro; rfl)
  iexact H

/-- And back. -/
theorem scrap_whole (c : Dev nD) (b : Ref sig .tc) : (scrap c (Memref.whole b) : sProp 𝕄) ⊢ iprop(∃ f, ((c : Thread nD τ).loc b) ↦{fullShare} f) := by
  unfold scrap
  iintro ⟨%X, H⟩
  ihave H := (Entails.of_eq (stg_has c b X).symm) $$ H
  icases H with ⟨%f, %hf, H⟩
  iexists f
  iexact H

/-- What the launch gives a device is what it brings to its point. -/
theorem bring_of (c : Dev nD) :
    iprop(Pipeline.unscopedRestP Pipeline.Prefetch.none cfg0.spec c (fun b => m ((c : Thread nD τ).loc b)) ∗ levAts (SiteBlocks.L top) SiteBlocks.lv
        ∗ Pipeline.launchCred (fun d => due d (codes 0 ++ codes 1)) c ∗ prngReg c (ρ c) ∗ G' (inp m) c)
      ⊢ |={Set.univ}=> iprop(Bring m c ∗ emp) := by
  rw [Pipeline.unscopedRestP_none, launch_eq, List.map_append, bigSepL_append]
  unfold G' Bring
  iintro ⟨Hu, #HL, ⟨C0, C1⟩, -, ⟨%K, #HI, HB⟩⟩
  ihave Hu := (Entails.of_eq (unscopedRest0_eq c (fun b => m ((c : Thread nD τ).loc b)))) $$ Hu
  ihave C0 := (creds_pass 0 c) $$ C0
  ihave C1 := (creds_pass 1 c) $$ C1
  imodintro
  isplitl
  · isplitr
    · iexists K; unfold Ctx
      isplitr; · iexact HI
      iexact HL
    isplitl [HB]; · iexact HB
    isplitl [C0 C1]
    · isplitl [C0]; · iexact C0
      iexact C1
    unfold bO
    iapply (whole_scrap c main_v1 (m ((c : Thread nD τ).loc main_v1))); iexact Hu
  · iempintro

/-- With the scratch buffers, that is what the body begins with. -/
theorem enter (c : Dev nD) :
    iprop(Bring m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ Fresh Bring
  iintro ⟨⟨HK, HB, HC, HO⟩, -, HS⟩
  ihave HS := (Entails.of_eq (scopedRest0_eq c)) $$ HS
  icases HS with ⟨⟨%f, H0⟩, ⟨%g, H1⟩⟩
  isplitl [HK]; · iexact HK
  isplitl [HB]; · iexact HB
  isplitl [HC]; · iexact HC
  isplitl [HO]; · iexact HO
  unfold bC bS
  isplitl [H0]
  · iapply (whole_scrap c cc0_scratch0 f); iexact H0
  iapply (whole_scrap c cc0_scratch1 g); iexact H1

/-- What the body ends with is the semaphores at zero, the result, and the scratch buffers again. -/
theorem leave (c : Dev nD) :
    (dats m ρ 0 c).Φ (Fin.last cfg0.N) ⊢ iprop((unscopedSems0 c ∗ Whole (inp m) c) ∗ Pipeline.ownSems0 osem c ∗ Pipeline.scopedRest cfg0.spec c) := by
  rw [show (dats m ρ 0 c).Φ (Fin.last cfg0.N) = Over (inp m) c from rfl]
  unfold Over bC bS
  iintro ⟨HZ, HW, HC, HS⟩
  ihave HZ := (sems0_back c) $$ HZ
  icases HZ with ⟨HU, HZ⟩
  isplitl [HU HW]
  · isplitl [HU]; · iexact HU
    iexact HW
  isplitl [HZ]; · iexact HZ
  iapply (Entails.of_eq (scopedRest0_eq c).symm)
  isplitl [HC]
  · iapply (scrap_whole c cc0_scratch0); iexact HC
  iapply (scrap_whole c cc0_scratch1); iexact HS

/-- The waits of the staging copies lie under all that a device owes. -/
theorem waits (c : Dev nD) : (levAts (SiteBlocks.L top) SiteBlocks.lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (codes 0 ++ codes 1) (by decide) (by decide)
    · exact mayWait c _ 0 [] (by decide) (by decide)

/-- The result on device `c`, row block by row block. -/
def Filled' (c : Dev nD) (s : MemSt nD τ sig (Elt F)) : Prop :=
  ∀ (t : RowIx) (j : S256x8192.Idx), s.mem ((c : Thread nD τ).loc main_v1) ((rowOf c t).rect.emb j) = fin (inp m) t.1 t.2.1 t.2.2 c j

/-- The result is read off at the end. -/
theorem whole_read (c : Dev nD) (s' : Phys nD τ sig (Elt F)) :
    iprop(Whole (inp m) c ∗ SI s') ⊢ (iprop(⌜Filled' m c s'.mem⌝ ∗ SI s') : sProp 𝕄) := by
  unfold Whole bO
  iintro ⟨⟨%X, %hX, H⟩, HSI⟩
  ihave H := (Entails.of_eq (stg_has c main_v1 X).symm) $$ H
  icases H with ⟨%f, %hf, H⟩
  ihave H2 := (pointsTo_read_all ({()} : Finset Unit) (fun _ => (c : Thread nD τ).loc main_v1) (fun _ => f) s') $$ [H HSI]
  · isplitl [H]
    · iapply (Entails.of_eq (bigSep_singleton (i := ()) (Φ := fun _ : Unit => (((c : Thread nD τ).loc main_v1) ↦{fullShare} f : sProp 𝕄))).symm)
      iexact H
    iexact HSI
  icases H2 with ⟨%h, HSI⟩
  isplitr
  · ipureintro
    intro t j
    rw [h () (Finset.mem_singleton_self _), hf]; exact hX t j
  iexact HSI

/-- The arguments on device `c` are as launched. -/
def Kept (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)

/-- What is true at the end of a run: each device's result is filled, its arguments are as launched, the semaphores are at zero. -/
def Ends (r : PUnit × MemSt nD τ sig (Elt F)) : Prop := (∀ c : Dev nD, Filled' m c r.2 ∧ Kept m c r.2) ∧ r.2.sem = fun _ => 0

/-- An argument a window stages holds at the end what it held. -/
theorem kept_of (c : Dev nD) (s : MemSt nD τ sig (Elt F))
    (h : ∀ w : Fin cfg0.W, s.mem ((cfg0.win w).arr.view.loc (c : Thread nD τ)) = (dats m ρ 0 c).arrAt w cfg0.N) : Kept m c s :=
  ⟨(h 0).trans ((dats m ρ 0 c).arrAt_in 0 rfl _), (h 1).trans ((dats m ρ 0 c).arrAt_in 1 rfl _),
    (h 2).trans ((dats m ρ 0 c).arrAt_in 2 rfl _), (h 3).trans ((dats m ρ 0 c).arrAt_in 3 rfl _)⟩

set_option maxRecDepth 100000 in
/-- Every fair execution of the kernel on the four devices ends, with each device's result filled block by block and every
    semaphore at zero. -/
theorem run_main : θ_run defs (onTc (τ := τ) (main (F := F))) (s₀ m ρ) (Ends m) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => due d (codes 0 ++ codes 1)) (howed₀ := fun _ => rfl) (howedN := fun _ => rfl)
    (L := SiteBlocks.L top) (lv := SiteBlocks.lv) (hL := SiteBlocks.hL top) (hwaits := waits m ρ)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP]; · iexact HP
      iexact HG)
    (hglob := glob (inp m))
    (hA := fun _ _ => rfl) (hpf := fun _ k => k.elim0)
    (X := Bring m) (Y := fun c => iprop(unscopedSems0 c ∗ Whole (inp m) c)) (Z := fun _ => iprop(emp))
    (hX := bring_of m ρ) (hin := enter m ρ) (hout := leave m ρ)
    (QY := fun c s => Filled' m c s ∧ ∀ sm : SemLoc sig, sm.isScoped .tc = false → s.sem ((c.tc : Thread nD τ), sm) = 0)
    (hY := fun c s' => by
      iintro ⟨⟨Hu, HW⟩, -, HSI⟩
      ihave HW := (whole_read m c s') $$ [HW HSI]
      · isplitl [HW]; · iexact HW
        iexact HSI
      icases HW with ⟨%hw, HSI⟩
      imod (Pipeline.unscopedSems0_read (X := unscopedSems0 c) (c := c) fupd_intro s') $$ [Hu HSI] with ⟨%hs, HSI⟩
      · isplitl [Hu]; · iexact Hu
        iexact HSI
      imodintro
      isplitr; · ipureintro; exact ⟨hw, hs⟩
      iexact HSI)
    (hQ := fun _ h hs => ⟨fun c => ⟨(h c).2.2.1, kept_of m ρ c _ (h c).1⟩, sem_eq_zero hs fun c => (h c).2.2.2⟩)

end Cert.KernelIdeal.Run
-- ==== Proof.Run.Value.lean ====
module

public import proofs.«01_k».proof.Proof.Run.Launch
public import Idealize.ShloMosaic.Lib.MatmulPlain

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)
open Cert.KernelIdeal.Gen

open Idealize.ShloMosaic.ValueIdx
open scoped BigOperators

/-! ## The ring's arithmetic over extended reals -/

/-- Stepping back once and then `k` times is stepping back `k + 1` times. -/
theorem go_up (d : Fin 2) (k : ℕ) (c : Dev nD) : go d k (up d c) = go d (k + 1) c := by
  unfold up go
  apply Fin.ext
  fin_cases d <;> simp <;> omega

/-- All the devices' shares of row block `n`, added up. -/
def total (I : Inp Ideal) (n : ℕ) (j : S256x8192.Idx) : EReal := ∑ e : Dev nD, (part I n e j : EReal)

/-- A sum over the four devices, in the order a direction meets them. -/
theorem sum_round (d : Fin 2) (c : Dev nD) (f : Dev nD → EReal) :
    f c + (f (up d c) + (f (up d (up d c)) + f (up d (up d (up d c))))) = ∑ e : Dev nD, f e := by
  rw [show (∑ e : Dev nD, f e) = f 0 + f 1 + f 2 + f 3 from Fin.sum_univ_four f]
  fin_cases d <;> fin_cases c
  · show f 0 + (f 3 + (f 2 + f 1)) = _; ac_rfl
  · show f 1 + (f 0 + (f 3 + f 2)) = _; ac_rfl
  · show f 2 + (f 1 + (f 0 + f 3)) = _; ac_rfl
  · show f 3 + (f 2 + (f 1 + f 0)) = _; ac_rfl
  · show f 0 + (f 1 + (f 2 + f 3)) = _; ac_rfl
  · show f 1 + (f 2 + (f 3 + f 0)) = _; ac_rfl
  · show f 2 + (f 3 + (f 0 + f 1)) = _; ac_rfl
  · show f 3 + (f 0 + (f 1 + f 2)) = _; ac_rfl

/-- The block a device finishes is the scaled sum of all shares. -/
theorem fin_zero (I : Inp Ideal) (p : ℕ) (d : Fin 2) (c : Dev nD) (j : S256x8192.Idx) :
    (fin I p d 0 c j : EReal) = total I (ch p d (go d 3 c)) j * (I.sc c : EReal) := by
  have h : (fin I p d 0 c j : EReal)
      = ((part I (ch p d (go d 3 c)) c j : EReal) + ((part I (ch p d (go d 2 (up d c))) (up d c) j : EReal)
          + ((part I (ch p d (go d 1 (up d (up d c)))) (up d (up d c)) j : EReal)
            + (part I (ch p d (go d 0 (up d (up d (up d c))))) (up d (up d (up d c))) j : EReal)))) * (I.sc c : EReal) := rfl
  rw [h, go_up, go_up, go_up, go_up, go_up, go_up]
  rw [sum_round d c fun e => (part I (ch p d (go d 3 c)) e j : EReal)]
  rfl

/-- What hop 3 carries is that block. -/
theorem sent_three (I : Inp Ideal) (p : ℕ) (d : Fin 2) (c : Dev nD) (j : S256x8192.Idx) :
    (sent I p d 3 c j : EReal) = (fin I p d 0 c j : EReal) := rfl

/-- The blocks that come later are those of the devices before, when all scales agree. -/
theorem sent_late (I : Inp Ideal) (s : EReal) (hs : ∀ c, (I.sc c : EReal) = s) (p : ℕ) (d : Fin 2) (k : ℕ) :
    ∀ (c : Dev nD) (j : S256x8192.Idx), (sent I p d (k + 3) c j : EReal) = total I (ch p d (go d (k + 3) c)) j * s := by
  induction k with
  | zero => intro c j; exact (sent_three I p d c j).trans ((fin_zero I p d c j).trans (by rw [hs]))
  | succ k ih =>
    intro c j
    have h := ih (up d c) j
    rw [go_up] at h
    exact h

/-- Every block of the result is the scaled sum of all devices' shares of it. -/
theorem fin_eq (I : Inp Ideal) (s : EReal) (hs : ∀ c, (I.sc c : EReal) = s) (p : ℕ) (d : Fin 2) (k : ℕ) (c : Dev nD) (j : S256x8192.Idx) :
    (fin I p d k c j : EReal) = total I (ch p d (go d (k + 3) c)) j * s := by
  cases k with
  | zero => rw [fin_zero, hs]
  | succ k =>
    have h := sent_late I s hs p d k (up d c) j
    rw [go_up] at h
    exact h

/-! ## A share at an index -/

/-- An element of a device's share: the sum of the products along the device's columns of x and rows of w. -/
theorem part_apply (I : Inp Ideal) (n : ℕ) (c : Dev nD) (r : Fin 256) (l : Fin 8192) :
    (part I n c (ix2 r l) : EReal) = ∑ k : Fin 1024, (I.x c (ix2 ⟨256 * (n % 16) + r.val, by omega⟩ k) : EReal) * (I.w c (ix2 k l) : EReal) := by
  unfold part partial_
  rw [shapeCast_self, shapeCast_self]
  refine (Ideal.matmul_plain_apply (M := 256) (K := 1024) (N := 8192) none _ _ _ r l).trans ?_
  rw [show (constant S256x8192 .f32 0x00000000#32 : FVec Ideal S256x8192 .f32) (ix2 r l) = (0 : EReal) from Ideal.ofBits_zero_f32, zero_add]
  refine Finset.sum_congr rfl fun k _ => ?_
  congr 1
  congr 1
  funext a
  apply Fin.ext
  match a with
  | ⟨0, _⟩ => show 256 * (n % 16) + 1 * r.val = _; rw [one_mul]
  | ⟨1, _⟩ => show 0 + 1 * k.val = _; rw [one_mul, zero_add]

/-! ## The operands as launched -/

variable (m : (ℓ : Loc nD τ sig) → Idealize.ShloMosaic.Buf (Elt Ideal) ℓ)

/-- An index moved by zero blocks on every axis is itself. -/
theorem stays {s : Shape} (e j : s.Idx) (h : ∀ a, (e a).val = 0 * s.size a + 1 * (j a).val) : e = j :=
  funext fun a => Fin.ext (by rw [h a]; omega)

/-- The x that a device works on is its first operand as launched. -/
theorem inp_x (c : Dev nD) (j : S4096x1024.Idx) : (inp m).x c j = m ((c : Thread nD τ).loc main_arg0) j :=
  congrArg (m ((c : Thread nD τ).loc main_arg0)) (stays (s := S4096x1024) _ j fun a => by fin_cases a <;> rfl)

/-- The w that a device works on is its second operand as launched. -/
theorem inp_w (c : Dev nD) (j : S1024x8192.Idx) : (inp m).w c j = m ((c : Thread nD τ).loc main_arg1) j :=
  congrArg (m ((c : Thread nD τ).loc main_arg1)) (stays (s := S1024x8192) _ j fun a => by fin_cases a <;> rfl)

/-- A scale's one word. -/
abbrev one : S1.Idx := fun a => match a with | ⟨0, _⟩ => (0 : Fin 1)

/-- The first scale on device `c`. -/
def scaleA (c : Dev nD) : EReal := m ((c : Thread nD τ).loc main_arg2) one
/-- The second scale on device `c`. -/
def scaleB (c : Dev nD) : EReal := m ((c : Thread nD τ).loc main_arg3) one

/-- The scale that a device works with is the product of its two. -/
theorem inp_sc (c : Dev nD) : ((inp m).sc c : EReal) = scaleA m c * scaleB m c := by
  have h2 : (word (iblk m c 2 t0_0) : EReal) = scaleA m c := congrArg (m ((c : Thread nD τ).loc main_arg2)) (one_idx _ one)
  have h3 : (word (iblk m c 3 t0_0) : EReal) = scaleB m c := congrArg (m ((c : Thread nD τ).loc main_arg3)) (one_idx _ one)
  rw [← h2, ← h3]
  rfl

/-! ## The whole result -/

/-- The scaled product at an index. -/
def prod (X : (⟨2, ![4096, 4096]⟩ : Shape).Idx → EReal) (W : S4096x8192.Idx → EReal) (a b : EReal) (i : S4096x8192.Idx) : EReal :=
  (∑ k : Fin 4096, X (ix2 (i 0) k) * W (ix2 k (i 1))) * (a * b)

/-- A sum over the long axis, device by device. -/
theorem sum_axis (f : Fin 4096 → EReal) : ∑ k : Fin 4096, f k = ∑ e : Fin 4, ∑ k : Fin 1024, f ⟨e.val * 1024 + k.val, by omega⟩ := by
  rw [← Fintype.sum_prod_type' (f := fun (e : Fin 4) (k : Fin 1024) => f ⟨e.val * 1024 + k.val, by omega⟩)]
  symm
  refine Fintype.sum_equiv (finProdFinEquiv (m := 4) (n := 1024)) _ _ fun x => ?_
  congr 1
  apply Fin.ext
  show x.1.val * 1024 + x.2.val = x.2.val + 1024 * x.1.val
  omega

/-- Every index lies in a block of rows the device writes. -/
theorem row_of_index (c : Dev nD) (i : S4096x8192.Idx) : ∃ (t : RowIx) (j : S256x8192.Idx), (rowOf c t).rect.emb j = i := by
  have hi : (i 0).val < 4096 := (i 0).isLt
  obtain ⟨t, ht⟩ := rowNum_surj c ⟨(i 0).val / 256, by omega⟩
  have hm : i ∈ (rowOf c t).rect.set := (mem_row c t i).mpr (by rw [ht]; dsimp only; omega)
  rw [← Rect.map_emb_univ] at hm
  obtain ⟨j, -, hj⟩ := Finset.mem_map.mp hm
  exact ⟨t, j, hj⟩

/-- The result on each device is the scaled product of the operands whose blocks the devices were launched with. -/
theorem result_eq (X : (⟨2, ![4096, 4096]⟩ : Shape).Idx → EReal) (W : S4096x8192.Idx → EReal) (a b : EReal)
    (hx : ∀ (c : Dev nD) (r : Fin 4096) (k : Fin 1024), (m ((c : Thread nD τ).loc main_arg0) (ix2 r k) : EReal) = X (ix2 r ⟨c.val * 1024 + k.val, by have : c.val < 4 := c.isLt; omega⟩))
    (hw : ∀ (c : Dev nD) (k : Fin 1024) (l : Fin 8192), (m ((c : Thread nD τ).loc main_arg1) (ix2 k l) : EReal) = W (ix2 ⟨c.val * 1024 + k.val, by have : c.val < 4 := c.isLt; omega⟩ l))
    (ha : ∀ c : Dev nD, scaleA m c = a)
    (hb : ∀ c : Dev nD, scaleB m c = b)
    (c : Dev nD) (s : MemSt nD τ sig (Elt Ideal)) (h : Filled' m c s) (i : S4096x8192.Idx) :
    (s.mem ((c : Thread nD τ).loc main_v1) i : EReal) = prod X W a b i := by
  obtain ⟨t, j, rfl⟩ := row_of_index c i
  refine (h t j).trans ((fin_eq (inp m) (a * b) (fun c => by rw [inp_sc, ha, hb]) _ _ _ _ _).trans ?_)
  unfold prod total
  rw [sum_axis]
  congr 1
  refine Finset.sum_congr rfl fun e _ => ?_
  obtain ⟨r, l, rfl⟩ : ∃ (r : Fin 256) (l : Fin 8192), j = ix2 r l := ⟨j 0, j 1, eq_ix2 j⟩
  refine (part_apply (inp m) _ e r l).trans ?_
  refine Finset.sum_congr rfl fun k _ => ?_
  rw [inp_x, inp_w, hx, hw]
  congr 1
  · congr 1
    funext q
    apply Fin.ext
    match q with
    | ⟨0, _⟩ => show 256 * _ + r.val = 256 * _ + 1 * r.val; rw [one_mul]
    | ⟨1, _⟩ => rfl
  · congr 1
    funext q
    apply Fin.ext
    match q with
    | ⟨0, _⟩ => rfl
    | ⟨1, _⟩ => show l.val = 0 + 1 * l.val; rw [one_mul, zero_add]

end Cert.KernelIdeal.Run
-- ==== Proof.Ref.Value.lean ====
module

public import proofs.«01_k».proof.Proof.Gen.ReferenceIdeal.Value
public import Idealize.ShloMosaic.Lib.MatmulPlain
public import Idealize.ShloMosaic.Lib.Pipeline.ValueKit

@[expose] public section

noncomputable section

namespace Cert.ReferenceIdeal.Full

open Cert.ReferenceIdeal Cert.ReferenceIdeal.Gen Cert.ReferenceIdeal.Value
open Idealize.ShloMosaic Idealize.ShloMosaic.TcCoe Idealize.SL.Sem
open scoped BigOperators

/-! ## What the reference leaves in its result -/

/-- A scale's one word. -/
abbrev one : S1.Idx := fun a => match a with | ⟨0, _⟩ => (0 : Fin 1)

/-- An index moved by zero blocks on every axis is itself. -/
theorem stays {s : Shape} (e j : s.Idx) (h : ∀ a, (e a).val = 0 * s.size a + 1 * (j a).val) : e = j :=
  funext fun a => Fin.ext (by rw [h a]; omega)

/-- A scale has one index. -/
theorem one_word (e : S1.Idx) : e = one := funext fun a => Fin.ext (by
  have h : S1.size a = 1 := by fin_cases a; rfl
  have h1 := (e a).isLt
  have h2 := (one a).isLt
  omega)

variable {F : FTy → Type} [FloatOps F]

/-- The body stores its payload over the whole of the result. -/
theorem out_eq (c : Dev nD) (arg0 : Memref sig .tc .vmem S4096x4096 .fp8e4m3) (harg0 : arg0.IsWhole) (arg1 : Memref sig .tc .vmem S4096x8192 .fp8e5m2) (harg1 : arg1.IsWhole)
    (arg2 : Memref sig .tc .smem S1 .f32) (harg2 : arg2.IsWhole) (arg3 : Memref sig .tc .smem S1 .f32) (harg3 : arg3.IsWhole) (arg4 : Memref sig .tc .vmem S4096x8192 .f32) (harg4 : arg4.IsWhole)
    (x0 : Vec F S4096x4096 .fp8e4m3) (x1 : Vec F S4096x8192 .fp8e5m2) (x2 : Vec F S1 .f32) (x3 : Vec F S1 .f32) :
    out0_A_4 c arg0 harg0 arg1 harg1 arg2 harg2 arg3 harg3 arg4 harg4 x0 x1 x2 x3 = k0_pay1 x0 x1 (x2 one) (x3 one) := by
  frame_out
  exact congrArg₂ (k0_pay1 x0 x1) (congrArg x2 (one_word _)) (congrArg x3 (one_word _))

variable (m : (ℓ : Loc nD τ sig) → Buf (Elt F) ℓ) (ρ : Dev nD → PrngReg)

/-- The first operand's block is the whole of it. -/
theorem blk0 (c : Dev nD) (t : Fin cfg0.N) : iblk m c 0 t = V m c main_arg0 :=
  funext fun j => congrArg (V m c main_arg0) (stays (s := S4096x4096) _ j fun a => by fin_cases a <;> rfl)
/-- The second operand's block is the whole of it. -/
theorem blk1 (c : Dev nD) (t : Fin cfg0.N) : iblk m c 1 t = V m c main_arg1 :=
  funext fun j => congrArg (V m c main_arg1) (stays (s := S4096x8192) _ j fun a => by fin_cases a <;> rfl)
/-- The third operand's block is the whole of it. -/
theorem blk2 (c : Dev nD) (t : Fin cfg0.N) : iblk m c 2 t = V m c main_arg2 :=
  funext fun j => congrArg (V m c main_arg2) (stays (s := S1) _ j fun a => by fin_cases a <;> rfl)
/-- The fourth operand's block is the whole of it. -/
theorem blk3 (c : Dev nD) (t : Fin cfg0.N) : iblk m c 3 t = V m c main_arg3 :=
  funext fun j => congrArg (V m c main_arg3) (stays (s := S1) _ j fun a => by fin_cases a <;> rfl)

/-- And the result's block is the whole of the result. -/
theorem home (t : Fin cfg0.N) (j : S4096x8192.Idx) : ((cfg0.win 4).blk t).view.emb j = j :=
  stays (s := S4096x8192) _ j fun a => by fin_cases a <;> rfl

/-- The result as a function of the operands. -/
def res (c : Dev nD) : Vec F S4096x8192 .f32 :=
  k0_pay1 (V m c main_arg0) (V m c main_arg1) (V m c main_arg2 one) (V m c main_arg3 one)

/-- What is written back is the result, read through its block. -/
theorem written (c : Dev nD) (t : Fin cfg0.N) : (dats m 0 c).flushed 4 t = ((cfg0.win 4).blk t).view.read (Elt F) (res m c) := by
  rw [flushed4_A, out_eq, blk0, blk1, blk2, blk3]
  exact funext fun j => congrArg (res m c) (home t j).symm

/-- The result array ends as the result. -/
theorem result_eq (c : Dev nD) : (dats m 0 c).arrAt 4 cfg0.N = res m c :=
  (dats m 0 c).arrAt_eq_of_cover 4 (res m c) (fun t _ => written m c t) fun i =>
    ⟨⟨0, Nat.one_pos⟩, flush0_4 _, home ⟨0, Nat.one_pos⟩ i ▸ View.emb_mem_set _ i⟩

/-- The reference's run with its result named. -/
theorem run : θ_run defs (onTc (τ := τ) (main (F := F))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩)
    (run_blocks m ρ)

/-- The product of the two scales. -/
def scales (m : (ℓ : Loc nD τ sig) → Buf (Elt Ideal) ℓ) (c : Dev nD) : EReal :=
  (show EReal from m ((c : Thread nD τ).loc main_arg2) one) * (show EReal from m ((c : Thread nD τ).loc main_arg3) one)

/-- The first matrix as a function of its indices. -/
def lhs (m : (ℓ : Loc nD τ sig) → Buf (Elt Ideal) ℓ) (c : Dev nD) : S4096x4096.Idx → EReal := m ((c : Thread nD τ).loc main_arg0)
/-- The second matrix as a function of its indices. -/
def rhs (m : (ℓ : Loc nD τ sig) → Buf (Elt Ideal) ℓ) (c : Dev nD) : S4096x8192.Idx → EReal := m ((c : Thread nD τ).loc main_arg1)

/-- The result at an index, over extended reals. -/
theorem res_apply (m : (ℓ : Loc nD τ sig) → Buf (Elt Ideal) ℓ) (c : Dev nD) (r : Fin 4096) (l : Fin 8192) :
    (res m c (ValueIdx.ix2 r l) : EReal) = (∑ k : Fin 4096, lhs m c (ValueIdx.ix2 r k) * rhs m c (ValueIdx.ix2 k l)) * scales m c := by
  have h := Ideal.matmul_plain_apply (M := 4096) (K := 4096) (N := 8192) (φ₁ := .fp8e4m3) (φ₂ := .fp8e5m2) none
    (lhs m c) (rhs m c) (constant S4096x8192 .f32 0x00000000#32) r l
  rw [show (constant S4096x8192 .f32 0x00000000#32 : FVec Ideal S4096x8192 .f32) (ValueIdx.ix2 r l) = (0 : EReal) from Ideal.ofBits_zero_f32, zero_add] at h
  exact congrArg (fun x : EReal => x * scales m c) h

end Cert.ReferenceIdeal.Full
-- ==== Proof.lean ====
/- The kernel's two frames, the reference's frame, and the value claim, put together: a product of fp8 matrices cut over a ring
   of four devices, with the reduction and the gathering done by remote copies, equals the whole product on every device. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run.Value
public import proofs.«01_k».proof.Proof.Ref.Value
public import Idealize.ShloMosaic.Adequacy
public import Idealize.ShloMosaic.Init

@[expose] public section

noncomputable section

namespace Cert.Proof

open Idealize.ShloMosaic Idealize.ShloMosaic.TcCoe Idealize.SL.Sem

/-- The kernel's frame over any float values: every execution ends, its arguments as launched and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c, Cert.KernelIdeal.Run.Kept m c r.2) ∧ r.2.sem = fun _ => 0) :=
  (θ_run Cert.KernelIdeal.defs _ _).mono (fun _ h => ⟨fun c => (h.1 c).2, h.2⟩) (Cert.KernelIdeal.Run.run_main m ρ)

/-- The same over extended reals. -/
theorem frame_ideal : Cert.quiescent_KernelIdeal := fun m ρ _ => frame_any (F := Ideal) m ρ

/-- The two body tables agree: the kernel's own text and the one read over any float values are the same. -/
theorem table_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  rcases l with ⟨_ | n, h⟩
  · rcases a with ⟨t, s⟩
    rfl
  · exact absurd h (Nat.not_lt.2 (Nat.le_add_left _ _))

/-- So do the tables with the staging copies' bodies in them. -/
theorem defs_same {F : FTy → Type} [FloatOps F] : Cert.Kernel.defs (F := F) = Cert.KernelIdeal.defs (F := F) :=
  congrArg (Pipeline.defs Cert.Kernel.pcfgs) table_same

/-- The frame of the kernel's own text. -/
theorem frame_kernel : Cert.quiescent_Kernel := fun m ρ _ => by
  have h := frame_any (F := Bits) m ρ
  rw [← defs_same] at h
  exact h

/-- A block of columns read at an index. -/
theorem cols_at (c : Fin 4) (X : (⟨2, ![4096, 4096]⟩ : Shape).Idx → EReal) (r : Fin 4096) (k : Fin 1024) :
    (Layout.block ⟨2, ![4096, 1024]⟩ ⟨2, ![4096, 4096]⟩ 1 4 c X) (ValueIdx.ix2 r k)
      = X (ValueIdx.ix2 r ⟨c.val * 1024 + k.val, by omega⟩) := by
  rw [Layout.block_apply]
  refine congrArg X (funext fun a => Fin.ext ?_)
  rw [Layout.Tiles.idx_val]
  match a with
  | ⟨0, _⟩ => rfl
  | ⟨1, _⟩ => rfl

/-- A block of rows read at an index. -/
theorem rows_at (c : Fin 4) (W : (⟨2, ![4096, 8192]⟩ : Shape).Idx → EReal) (k : Fin 1024) (l : Fin 8192) :
    (Layout.block ⟨2, ![1024, 8192]⟩ ⟨2, ![4096, 8192]⟩ 0 4 c W) (ValueIdx.ix2 k l)
      = W (ValueIdx.ix2 ⟨c.val * 1024 + k.val, by omega⟩ l) := by
  rw [Layout.block_apply]
  refine congrArg W (funext fun a => Fin.ext ?_)
  rw [Layout.Tiles.idx_val]
  match a with
  | ⟨0, _⟩ => rfl
  | ⟨1, _⟩ => rfl

/-- On every device the kernel leaves what the reference computes from the whole operands. -/
theorem value : Cert.algebraic_KernelIdeal_ReferenceIdeal := fun m ρ m' ρ' _ h => by
  refine ⟨Cert.ReferenceIdeal.Full.res m' 0, ?_, ?_⟩
  · refine (θ_run Cert.KernelIdeal.defs _ _).mono (fun r hr c => ⟨?_, (hr.1 c).2⟩) (Cert.KernelIdeal.Run.run_main (F := Ideal) m ρ)
    funext i
    refine (Cert.KernelIdeal.Run.result_eq m (Cert.ReferenceIdeal.Full.lhs m' 0) (Cert.ReferenceIdeal.Full.rhs m' 0)
      (m' (((0 : Dev Cert.ReferenceIdeal.nD) : Thread Cert.ReferenceIdeal.nD Cert.ReferenceIdeal.τ).loc Cert.ReferenceIdeal.main_arg2) Cert.ReferenceIdeal.Full.one)
      (m' (((0 : Dev Cert.ReferenceIdeal.nD) : Thread Cert.ReferenceIdeal.nD Cert.ReferenceIdeal.τ).loc Cert.ReferenceIdeal.main_arg3) Cert.ReferenceIdeal.Full.one)
      (fun c r k => (congrFun (h c).1 _).trans (cols_at c _ r k)) (fun c k l => (congrFun (h c).2.1 _).trans (rows_at c _ k l))
      (fun c => congrFun (h c).2.2.1 _) (fun c => congrFun (h c).2.2.2 _) c r.2 (hr.1 c).1 i).trans ?_
    obtain ⟨a, b, rfl⟩ : ∃ (a : Fin 4096) (b : Fin 8192), i = ValueIdx.ix2 a b := ⟨i 0, i 1, ValueIdx.eq_ix2 i⟩
    exact (Cert.ReferenceIdeal.Full.res_apply m' 0 a b).symm
  · exact (θ_run Cert.ReferenceIdeal.defs _ _).mono (fun r hr => ⟨(hr 0).1, (hr 0).2⟩) (Cert.ReferenceIdeal.Full.run (F := Ideal) m' ρ')

/-- All five claims. -/
theorem claim : Cert.Claim := ⟨Cert.Kernel.Gen.facts, Cert.KernelIdeal.Gen.facts, Cert.ReferenceIdeal.Gen.facts,
  frame_kernel, frame_ideal, fun m ρ _ => Cert.ReferenceIdeal.Gen.frame (F := Ideal) m ρ, trivial, value⟩

end Cert.Proof

end
